-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S4096x8192 : Shape := ⟨2, ![4096, 8192]⟩
abbrev S2x256x8192 : Shape := ⟨3, ![2, 256, 8192]⟩
abbrev S2x2 : Shape := ⟨2, ![2, 2]⟩
abbrev S_ : Shape := ⟨0, ![]⟩
abbrev S2 : Shape := ⟨1, ![2]⟩
abbrev S256x512 : Shape := ⟨2, ![256, 512]⟩
abbrev S256x8192 : Shape := ⟨2, ![256, 8192]⟩
abbrev S1x256x8192 : Shape := ⟨3, ![1, 256, 8192]⟩
abbrev S1x1 : Shape := ⟨2, ![1, 1]⟩
abbrev S1x128x8192 : Shape := ⟨3, ![1, 128, 8192]⟩
abbrev S128x8192 : Shape := ⟨2, ![128, 8192]⟩
abbrev S128x512 : Shape := ⟨2, ![128, 512]⟩

abbrev nBuf : Space → Nat
  | .hbm => 5
  | .vmem => 4
  | .smem => 2
  | _ => 0

abbrev bufTy : (tb : Table) → Fin (tcTables nBuf tb) → BufTy
  | .hbm, ⟨0, _⟩ => ⟨S4096x512, .fp8e4m3⟩
  | .hbm, ⟨1, _⟩ => ⟨S512x8192, .fp8e5m2⟩
  | .hbm, ⟨2, _⟩ => ⟨S1, .f32⟩
  | .hbm, ⟨3, _⟩ => ⟨S1, .f32⟩
  | .hbm, ⟨4, _⟩ => ⟨S4096x8192, .bf16⟩
  | .local _ .vmem, ⟨0, _⟩ => ⟨S4096x512, .fp8e4m3⟩
  | .local _ .vmem, ⟨1, _⟩ => ⟨S512x8192, .fp8e5m2⟩
  | .local _ .vmem, ⟨2, _⟩ => ⟨S2x256x8192, .bf16⟩
  | .local _ .vmem, ⟨3, _⟩ => ⟨S2x256x8192, .bf16⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 3 24 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_10 : BitVec 32 := 1#32
  let v19 : BitVec 32 := Scalar.muli v11 c1_i32_10
  let v20 : BitVec 32 := Scalar.addi c0_i32 v19
  v20.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_12 : BitVec 32 := 1#32
  let v21 : BitVec 32 := Scalar.muli v17 c1_i32_12
  let v22 : BitVec 32 := Scalar.addi c0_i32_13 v21
  v22.toNat
def k0_off1 (d0 : Dev nD) (c0_i32_14 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v23 : BitVec 32 := Scalar.muli v2 c512_i32
  let v24 : BitVec 32 := Scalar.addi v23 c0_i32_14
  let v25 : Index := Scalar.indexCast v24
  let c0 : Index := 0#32
  ![v25.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_34 : BitVec 32 := 1#32
  let v51 : BitVec 32 := Scalar.muli v17 c1_i32_34
  let v52 : BitVec 32 := Scalar.addi c0_i32_35 v51
  v52.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_46 : BitVec 32 := 1#32
  let v61 : BitVec 32 := Scalar.muli v11 c1_i32_46
  let v62 : BitVec 32 := Scalar.addi c0_i32_47 v61
  v62.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_58 : BitVec 32 := 1#32
  let v71 : BitVec 32 := Scalar.muli v17 c1_i32_58
  let v72 : BitVec 32 := Scalar.addi c0_i32_59 v71
  v72.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_69 : BitVec 32 := 1#32
  let v81 : BitVec 32 := Scalar.muli v11 c1_i32_69
  let v82 : BitVec 32 := Scalar.addi c0_i32_70 v81
  v82.toNat
def k0_off2 (d0 : Dev nD) (c0_i32_75 : BitVec 32) (c0_i32_88 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v91 : BitVec 32 := Scalar.subi v5 c0_i32_75
  let c1_i32_76 : BitVec 32 := 1#32
  let v92 : BitVec 32 := Scalar.subi v91 c1_i32_76
  let c16_i32_77 : BitVec 32 := 16#32
  let v93 : BitVec 32 := Scalar.addi v92 c16_i32_77
  let c8_i32_78 : BitVec 32 := 8#32
  let v94 : BitVec 32 := Scalar.remsi v93 c8_i32_78
  let c4_i32_79 : BitVec 32 := 4#32
  let v95 : BitVec 1 := Scalar.cmpi .slt v94 c4_i32_79
  let c11_i32_80 : BitVec 32 := 11#32
  let v96 : BitVec 32 := Scalar.subi c11_i32_80 v94
  let v97 : BitVec 32 := Scalar.select v95 v94 v96
  let c512_i32_87 : BitVec 32 := 512#32
  let v105 : BitVec 32 := Scalar.muli v97 c512_i32_87
  let v106 : BitVec 32 := Scalar.addi v105 c0_i32_88
  let v107 : Index := Scalar.indexCast v106
  let c0_89 : Index := 0#32
  ![v107.toNat, 0]
def k0_off3 (d0 : Dev nD) (c0_i32_81 : BitVec 32) (c0_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v98 : BitVec 32 := Scalar.addi v5 c0_i32_81
  let c1_i32_82 : BitVec 32 := 1#32
  let v99 : BitVec 32 := Scalar.addi v98 c1_i32_82
  let c16_i32_83 : BitVec 32 := 16#32
  let v100 : BitVec 32 := Scalar.addi v99 c16_i32_83
  let c8_i32_84 : BitVec 32 := 8#32
  let v101 : BitVec 32 := Scalar.remsi v100 c8_i32_84
  let c4_i32_85 : BitVec 32 := 4#32
  let v102 : BitVec 1 := Scalar.cmpi .slt v101 c4_i32_85
  let c11_i32_86 : BitVec 32 := 11#32
  let v103 : BitVec 32 := Scalar.subi c11_i32_86 v101
  let v104 : BitVec 32 := Scalar.select v102 v101 v103
  let c512_i32_93 : BitVec 32 := 512#32
  let v115 : BitVec 32 := Scalar.muli v104 c512_i32_93
  let c256_i32_94 : BitVec 32 := 256#32
  let v116 : BitVec 32 := Scalar.addi v115 c256_i32_94
  let v117 : BitVec 32 := Scalar.addi v116 c0_i32_95
  let v118 : Index := Scalar.indexCast v117
  let c0_96 : Index := 0#32
  ![v118.toNat, 0]
def k0_dev7 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_228 : BitVec 32 := 1#32
  let v235 : BitVec 32 := Scalar.muli v11 c1_i32_228
  let v236 : BitVec 32 := Scalar.addi c0_i32_229 v235
  v236.toNat
def k0_dev8 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_231 : BitVec 32 := 1#32
  let v237 : BitVec 32 := Scalar.muli v17 c1_i32_231
  let v238 : BitVec 32 := Scalar.addi c0_i32_232 v237
  v238.toNat
def k0_dev9 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_243 : BitVec 32 := 1#32
  let v239 : BitVec 32 := Scalar.muli v17 c1_i32_243
  let v240 : BitVec 32 := Scalar.addi c0_i32_244 v239
  v240.toNat
def k0_dev10 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_255 : BitVec 32 := 1#32
  let v249 : BitVec 32 := Scalar.muli v11 c1_i32_255
  let v250 : BitVec 32 := Scalar.addi c0_i32_256 v249
  v250.toNat
def k0_dev11 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_267 : BitVec 32 := 1#32
  let v259 : BitVec 32 := Scalar.muli v17 c1_i32_267
  let v260 : BitVec 32 := Scalar.addi c0_i32_268 v259
  v260.toNat
def k0_dev12 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_279 : BitVec 32 := 1#32
  let v269 : BitVec 32 := Scalar.muli v11 c1_i32_279
  let v270 : BitVec 32 := Scalar.addi c0_i32_280 v269
  v270.toNat
def k0_dev13 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_440 : BitVec 32 := 1#32
  let v423 : BitVec 32 := Scalar.muli v11 c1_i32_440
  let v424 : BitVec 32 := Scalar.addi c0_i32_441 v423
  v424.toNat
def k0_dev14 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_443 : BitVec 32 := 1#32
  let v425 : BitVec 32 := Scalar.muli v17 c1_i32_443
  let v426 : BitVec 32 := Scalar.addi c0_i32_444 v425
  v426.toNat
def k0_dev15 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_455 : BitVec 32 := 1#32
  let v427 : BitVec 32 := Scalar.muli v17 c1_i32_455
  let v428 : BitVec 32 := Scalar.addi c0_i32_456 v427
  v428.toNat
def k0_dev16 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_467 : BitVec 32 := 1#32
  let v437 : BitVec 32 := Scalar.muli v11 c1_i32_467
  let v438 : BitVec 32 := Scalar.addi c0_i32_468 v437
  v438.toNat
def k0_dev17 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_479 : BitVec 32 := 1#32
  let v447 : BitVec 32 := Scalar.muli v17 c1_i32_479
  let v448 : BitVec 32 := Scalar.addi c0_i32_480 v447
  v448.toNat
def k0_dev18 (d0 : Dev nD) : Nat :=
  let c0_i32_492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_491 : BitVec 32 := 1#32
  let v457 : BitVec 32 := Scalar.muli v11 c1_i32_491
  let v458 : BitVec 32 := Scalar.addi c0_i32_492 v457
  v458.toNat
def k0_dev19 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_652 : BitVec 32 := 1#32
  let v611 : BitVec 32 := Scalar.muli v11 c1_i32_652
  let v612 : BitVec 32 := Scalar.addi c0_i32_653 v611
  v612.toNat
def k0_dev20 (d0 : Dev nD) : Nat :=
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_655 : BitVec 32 := 1#32
  let v613 : BitVec 32 := Scalar.muli v17 c1_i32_655
  let v614 : BitVec 32 := Scalar.addi c0_i32_656 v613
  v614.toNat
def k0_dev21 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_667 : BitVec 32 := 1#32
  let v615 : BitVec 32 := Scalar.muli v17 c1_i32_667
  let v616 : BitVec 32 := Scalar.addi c0_i32_668 v615
  v616.toNat
def k0_dev22 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_679 : BitVec 32 := 1#32
  let v625 : BitVec 32 := Scalar.muli v11 c1_i32_679
  let v626 : BitVec 32 := Scalar.addi c0_i32_680 v625
  v626.toNat
def k0_dev23 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_691 : BitVec 32 := 1#32
  let v635 : BitVec 32 := Scalar.muli v17 c1_i32_691
  let v636 : BitVec 32 := Scalar.addi c0_i32_692 v635
  v636.toNat
def k0_dev24 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_703 : BitVec 32 := 1#32
  let v645 : BitVec 32 := Scalar.muli v11 c1_i32_703
  let v646 : BitVec 32 := Scalar.addi c0_i32_704 v645
  v646.toNat
def k0_dev25 (d0 : Dev nD) : Nat :=
  let c0_i32_864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_863 : BitVec 32 := 1#32
  let v799 : BitVec 32 := Scalar.muli v11 c1_i32_863
  let v800 : BitVec 32 := Scalar.addi c0_i32_864 v799
  v800.toNat
def k0_dev26 (d0 : Dev nD) : Nat :=
  let c0_i32_867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_866 : BitVec 32 := 1#32
  let v801 : BitVec 32 := Scalar.muli v17 c1_i32_866
  let v802 : BitVec 32 := Scalar.addi c0_i32_867 v801
  v802.toNat
def k0_dev27 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_878 : BitVec 32 := 1#32
  let v803 : BitVec 32 := Scalar.muli v17 c1_i32_878
  let v804 : BitVec 32 := Scalar.addi c0_i32_879 v803
  v804.toNat
def k0_dev28 (d0 : Dev nD) : Nat :=
  let c0_i32_891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_890 : BitVec 32 := 1#32
  let v813 : BitVec 32 := Scalar.muli v11 c1_i32_890
  let v814 : BitVec 32 := Scalar.addi c0_i32_891 v813
  v814.toNat
def k0_dev29 (d0 : Dev nD) : Nat :=
  let c0_i32_903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_902 : BitVec 32 := 1#32
  let v823 : BitVec 32 := Scalar.muli v17 c1_i32_902
  let v824 : BitVec 32 := Scalar.addi c0_i32_903 v823
  v824.toNat
def k0_dev30 (d0 : Dev nD) : Nat :=
  let c0_i32_915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_914 : BitVec 32 := 1#32
  let v833 : BitVec 32 := Scalar.muli v11 c1_i32_914
  let v834 : BitVec 32 := Scalar.addi c0_i32_915 v833
  v834.toNat
def k0_dev31 (d0 : Dev nD) : Nat :=
  let c0_i32_1076 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1075 : BitVec 32 := 1#32
  let v987 : BitVec 32 := Scalar.muli v11 c1_i32_1075
  let v988 : BitVec 32 := Scalar.addi c0_i32_1076 v987
  v988.toNat
def k0_dev32 (d0 : Dev nD) : Nat :=
  let c0_i32_1079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1078 : BitVec 32 := 1#32
  let v989 : BitVec 32 := Scalar.muli v17 c1_i32_1078
  let v990 : BitVec 32 := Scalar.addi c0_i32_1079 v989
  v990.toNat
def k0_dev33 (d0 : Dev nD) : Nat :=
  let c0_i32_1091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1090 : BitVec 32 := 1#32
  let v991 : BitVec 32 := Scalar.muli v17 c1_i32_1090
  let v992 : BitVec 32 := Scalar.addi c0_i32_1091 v991
  v992.toNat
def k0_dev34 (d0 : Dev nD) : Nat :=
  let c0_i32_1103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1102 : BitVec 32 := 1#32
  let v1001 : BitVec 32 := Scalar.muli v11 c1_i32_1102
  let v1002 : BitVec 32 := Scalar.addi c0_i32_1103 v1001
  v1002.toNat
def k0_dev35 (d0 : Dev nD) : Nat :=
  let c0_i32_1115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1114 : BitVec 32 := 1#32
  let v1011 : BitVec 32 := Scalar.muli v17 c1_i32_1114
  let v1012 : BitVec 32 := Scalar.addi c0_i32_1115 v1011
  v1012.toNat
def k0_dev36 (d0 : Dev nD) : Nat :=
  let c0_i32_1127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1126 : BitVec 32 := 1#32
  let v1021 : BitVec 32 := Scalar.muli v11 c1_i32_1126
  let v1022 : BitVec 32 := Scalar.addi c0_i32_1127 v1021
  v1022.toNat
def k0_dev37 (d0 : Dev nD) : Nat :=
  let c0_i32_1287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1286 : BitVec 32 := 1#32
  let v1175 : BitVec 32 := Scalar.muli v11 c1_i32_1286
  let v1176 : BitVec 32 := Scalar.addi c0_i32_1287 v1175
  v1176.toNat
def k0_dev38 (d0 : Dev nD) : Nat :=
  let c0_i32_1290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1289 : BitVec 32 := 1#32
  let v1177 : BitVec 32 := Scalar.muli v17 c1_i32_1289
  let v1178 : BitVec 32 := Scalar.addi c0_i32_1290 v1177
  v1178.toNat
def k0_dev39 (d0 : Dev nD) : Nat :=
  let c0_i32_1302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1301 : BitVec 32 := 1#32
  let v1179 : BitVec 32 := Scalar.muli v17 c1_i32_1301
  let v1180 : BitVec 32 := Scalar.addi c0_i32_1302 v1179
  v1180.toNat
def k0_dev40 (d0 : Dev nD) : Nat :=
  let c0_i32_1314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1313 : BitVec 32 := 1#32
  let v1189 : BitVec 32 := Scalar.muli v11 c1_i32_1313
  let v1190 : BitVec 32 := Scalar.addi c0_i32_1314 v1189
  v1190.toNat
def k0_dev41 (d0 : Dev nD) : Nat :=
  let c0_i32_1326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1325 : BitVec 32 := 1#32
  let v1199 : BitVec 32 := Scalar.muli v17 c1_i32_1325
  let v1200 : BitVec 32 := Scalar.addi c0_i32_1326 v1199
  v1200.toNat
def k0_dev42 (d0 : Dev nD) : Nat :=
  let c0_i32_1338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1337 : BitVec 32 := 1#32
  let v1209 : BitVec 32 := Scalar.muli v11 c1_i32_1337
  let v1210 : BitVec 32 := Scalar.addi c0_i32_1338 v1209
  v1210.toNat
def k0_dev43 (d0 : Dev nD) : Nat :=
  let c0_i32_1498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1497 : BitVec 32 := 1#32
  let v1363 : BitVec 32 := Scalar.muli v11 c1_i32_1497
  let v1364 : BitVec 32 := Scalar.addi c0_i32_1498 v1363
  v1364.toNat
def k0_dev44 (d0 : Dev nD) : Nat :=
  let c0_i32_1501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1500 : BitVec 32 := 1#32
  let v1365 : BitVec 32 := Scalar.muli v17 c1_i32_1500
  let v1366 : BitVec 32 := Scalar.addi c0_i32_1501 v1365
  v1366.toNat
def k0_off4 (d0 : Dev nD) (c1_i32_1526 : BitVec 32) (c0_i32_1537 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1412 : BitVec 32 := Scalar.addi v5 c1_i32_1526
  let c16_i32_1527 : BitVec 32 := 16#32
  let v1413 : BitVec 32 := Scalar.addi v1412 c16_i32_1527
  let c8_i32_1528 : BitVec 32 := 8#32
  let v1414 : BitVec 32 := Scalar.remsi v1413 c8_i32_1528
  let c4_i32_1529 : BitVec 32 := 4#32
  let v1415 : BitVec 1 := Scalar.cmpi .slt v1414 c4_i32_1529
  let c11_i32_1530 : BitVec 32 := 11#32
  let v1416 : BitVec 32 := Scalar.subi c11_i32_1530 v1414
  let v1417 : BitVec 32 := Scalar.select v1415 v1414 v1416
  let c512_i32_1536 : BitVec 32 := 512#32
  let v1424 : BitVec 32 := Scalar.muli v1417 c512_i32_1536
  let v1425 : BitVec 32 := Scalar.addi v1424 c0_i32_1537
  let c0_i32_1542 : BitVec 32 := 0#32
  ![v1425.toNat, 0]
def k0_off4_at (r : Fin 8) : BitVec 32 × BitVec 32 :=
  if r.val < 4 then
    if r.val < 2 then
      if r.val < 1 then
        (1#32, 0#32)
      else
        (0#32, 256#32)
    else
      if r.val < 3 then
        (1#32, 256#32)
      else
        (2#32, 256#32)
  else
    if r.val < 6 then
      if r.val < 5 then
        (3#32, 256#32)
      else
        (4#32, 256#32)
    else
      if r.val < 7 then
        (5#32, 256#32)
      else
        (6#32, 256#32)
def k0_off5 (d0 : Dev nD) (c1_i32_1531 : BitVec 32) (c256_i32_1539 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1418 : BitVec 32 := Scalar.subi v5 c1_i32_1531
  let c16_i32_1532 : BitVec 32 := 16#32
  let v1419 : BitVec 32 := Scalar.addi v1418 c16_i32_1532
  let c8_i32_1533 : BitVec 32 := 8#32
  let v1420 : BitVec 32 := Scalar.remsi v1419 c8_i32_1533
  let c4_i32_1534 : BitVec 32 := 4#32
  let v1421 : BitVec 1 := Scalar.cmpi .slt v1420 c4_i32_1534
  let c11_i32_1535 : BitVec 32 := 11#32
  let v1422 : BitVec 32 := Scalar.subi c11_i32_1535 v1420
  let v1423 : BitVec 32 := Scalar.select v1421 v1420 v1422
  let c512_i32_1538 : BitVec 32 := 512#32
  let v1426 : BitVec 32 := Scalar.muli v1423 c512_i32_1538
  let v1427 : BitVec 32 := Scalar.addi v1426 c256_i32_1539
  let c0_i32_1547 : BitVec 32 := 0#32
  ![v1427.toNat, 0]
def k0_off5_at (r : Fin 8) : BitVec 32 × BitVec 32 :=
  if r.val < 4 then
    if r.val < 2 then
      if r.val < 1 then
        (1#32, 256#32)
      else
        (0#32, 0#32)
    else
      if r.val < 3 then
        (1#32, 0#32)
      else
        (2#32, 0#32)
  else
    if r.val < 6 then
      if r.val < 5 then
        (3#32, 0#32)
      else
        (4#32, 0#32)
    else
      if r.val < 7 then
        (5#32, 0#32)
      else
        (6#32, 0#32)
def k0_dev45 (d0 : Dev nD) : Nat :=
  let c0_i32_1561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1560 : BitVec 32 := 1#32
  let v1438 : BitVec 32 := Scalar.muli v17 c1_i32_1560
  let v1439 : BitVec 32 := Scalar.addi c0_i32_1561 v1438
  v1439.toNat
def k0_dev46 (d0 : Dev nD) : Nat :=
  let c0_i32_1573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1572 : BitVec 32 := 1#32
  let v1448 : BitVec 32 := Scalar.muli v11 c1_i32_1572
  let v1449 : BitVec 32 := Scalar.addi c0_i32_1573 v1448
  v1449.toNat
def k0_dev47 (d0 : Dev nD) : Nat :=
  let c0_i32_1660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1659 : BitVec 32 := 1#32
  let v1522 : BitVec 32 := Scalar.muli v11 c1_i32_1659
  let v1523 : BitVec 32 := Scalar.addi c0_i32_1660 v1522
  v1523.toNat
def k0_dev48 (d0 : Dev nD) : Nat :=
  let c0_i32_1663 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1662 : BitVec 32 := 1#32
  let v1524 : BitVec 32 := Scalar.muli v17 c1_i32_1662
  let v1525 : BitVec 32 := Scalar.addi c0_i32_1663 v1524
  v1525.toNat
def k0_dev49 (d0 : Dev nD) : Nat :=
  let c0_i32_1675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1674 : BitVec 32 := 1#32
  let v1526 : BitVec 32 := Scalar.muli v17 c1_i32_1674
  let v1527 : BitVec 32 := Scalar.addi c0_i32_1675 v1526
  v1527.toNat
def k0_dev50 (d0 : Dev nD) : Nat :=
  let c0_i32_1687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1686 : BitVec 32 := 1#32
  let v1536 : BitVec 32 := Scalar.muli v11 c1_i32_1686
  let v1537 : BitVec 32 := Scalar.addi c0_i32_1687 v1536
  v1537.toNat
def k0_dev51 (d0 : Dev nD) : Nat :=
  let c0_i32_1774 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1773 : BitVec 32 := 1#32
  let v1610 : BitVec 32 := Scalar.muli v11 c1_i32_1773
  let v1611 : BitVec 32 := Scalar.addi c0_i32_1774 v1610
  v1611.toNat
def k0_dev52 (d0 : Dev nD) : Nat :=
  let c0_i32_1777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1776 : BitVec 32 := 1#32
  let v1612 : BitVec 32 := Scalar.muli v17 c1_i32_1776
  let v1613 : BitVec 32 := Scalar.addi c0_i32_1777 v1612
  v1613.toNat
def k0_dev53 (d0 : Dev nD) : Nat :=
  let c0_i32_1789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1788 : BitVec 32 := 1#32
  let v1614 : BitVec 32 := Scalar.muli v17 c1_i32_1788
  let v1615 : BitVec 32 := Scalar.addi c0_i32_1789 v1614
  v1615.toNat
def k0_dev54 (d0 : Dev nD) : Nat :=
  let c0_i32_1801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1800 : BitVec 32 := 1#32
  let v1624 : BitVec 32 := Scalar.muli v11 c1_i32_1800
  let v1625 : BitVec 32 := Scalar.addi c0_i32_1801 v1624
  v1625.toNat
def k0_dev55 (d0 : Dev nD) : Nat :=
  let c0_i32_1888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1887 : BitVec 32 := 1#32
  let v1698 : BitVec 32 := Scalar.muli v11 c1_i32_1887
  let v1699 : BitVec 32 := Scalar.addi c0_i32_1888 v1698
  v1699.toNat
def k0_dev56 (d0 : Dev nD) : Nat :=
  let c0_i32_1891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1890 : BitVec 32 := 1#32
  let v1700 : BitVec 32 := Scalar.muli v17 c1_i32_1890
  let v1701 : BitVec 32 := Scalar.addi c0_i32_1891 v1700
  v1701.toNat
def k0_dev57 (d0 : Dev nD) : Nat :=
  let c0_i32_1903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1902 : BitVec 32 := 1#32
  let v1702 : BitVec 32 := Scalar.muli v17 c1_i32_1902
  let v1703 : BitVec 32 := Scalar.addi c0_i32_1903 v1702
  v1703.toNat
def k0_dev58 (d0 : Dev nD) : Nat :=
  let c0_i32_1915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1914 : BitVec 32 := 1#32
  let v1712 : BitVec 32 := Scalar.muli v11 c1_i32_1914
  let v1713 : BitVec 32 := Scalar.addi c0_i32_1915 v1712
  v1713.toNat
def k0_dev59 (d0 : Dev nD) : Nat :=
  let c0_i32_2002 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2001 : BitVec 32 := 1#32
  let v1786 : BitVec 32 := Scalar.muli v11 c1_i32_2001
  let v1787 : BitVec 32 := Scalar.addi c0_i32_2002 v1786
  v1787.toNat
def k0_dev60 (d0 : Dev nD) : Nat :=
  let c0_i32_2005 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2004 : BitVec 32 := 1#32
  let v1788 : BitVec 32 := Scalar.muli v17 c1_i32_2004
  let v1789 : BitVec 32 := Scalar.addi c0_i32_2005 v1788
  v1789.toNat
def k0_dev61 (d0 : Dev nD) : Nat :=
  let c0_i32_2017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2016 : BitVec 32 := 1#32
  let v1790 : BitVec 32 := Scalar.muli v17 c1_i32_2016
  let v1791 : BitVec 32 := Scalar.addi c0_i32_2017 v1790
  v1791.toNat
def k0_dev62 (d0 : Dev nD) : Nat :=
  let c0_i32_2029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2028 : BitVec 32 := 1#32
  let v1800 : BitVec 32 := Scalar.muli v11 c1_i32_2028
  let v1801 : BitVec 32 := Scalar.addi c0_i32_2029 v1800
  v1801.toNat
def k0_dev63 (d0 : Dev nD) : Nat :=
  let c0_i32_2116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2115 : BitVec 32 := 1#32
  let v1874 : BitVec 32 := Scalar.muli v11 c1_i32_2115
  let v1875 : BitVec 32 := Scalar.addi c0_i32_2116 v1874
  v1875.toNat
def k0_dev64 (d0 : Dev nD) : Nat :=
  let c0_i32_2119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2118 : BitVec 32 := 1#32
  let v1876 : BitVec 32 := Scalar.muli v17 c1_i32_2118
  let v1877 : BitVec 32 := Scalar.addi c0_i32_2119 v1876
  v1877.toNat
def k0_dev65 (d0 : Dev nD) : Nat :=
  let c0_i32_2131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2130 : BitVec 32 := 1#32
  let v1878 : BitVec 32 := Scalar.muli v17 c1_i32_2130
  let v1879 : BitVec 32 := Scalar.addi c0_i32_2131 v1878
  v1879.toNat
def k0_dev66 (d0 : Dev nD) : Nat :=
  let c0_i32_2143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2142 : BitVec 32 := 1#32
  let v1888 : BitVec 32 := Scalar.muli v11 c1_i32_2142
  let v1889 : BitVec 32 := Scalar.addi c0_i32_2143 v1888
  v1889.toNat
def k0_dev67 (d0 : Dev nD) : Nat :=
  let c0_i32_2230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2229 : BitVec 32 := 1#32
  let v1962 : BitVec 32 := Scalar.muli v11 c1_i32_2229
  let v1963 : BitVec 32 := Scalar.addi c0_i32_2230 v1962
  v1963.toNat
def k0_dev68 (d0 : Dev nD) : Nat :=
  let c0_i32_2233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2232 : BitVec 32 := 1#32
  let v1964 : BitVec 32 := Scalar.muli v17 c1_i32_2232
  let v1965 : BitVec 32 := Scalar.addi c0_i32_2233 v1964
  v1965.toNat
def k0_dev69 (d0 : Dev nD) : Nat :=
  let c0_i32_2245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2244 : BitVec 32 := 1#32
  let v1966 : BitVec 32 := Scalar.muli v17 c1_i32_2244
  let v1967 : BitVec 32 := Scalar.addi c0_i32_2245 v1966
  v1967.toNat
def k0_dev70 (d0 : Dev nD) : Nat :=
  let c0_i32_2257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2256 : BitVec 32 := 1#32
  let v1976 : BitVec 32 := Scalar.muli v11 c1_i32_2256
  let v1977 : BitVec 32 := Scalar.addi c0_i32_2257 v1976
  v1977.toNat
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .bf16⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .bf16⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
module

public import proofs.«01_k».proof.Proof.Gen.KernelIdeal.Points
public import proofs.«01_k».proof.Proof.Gen.KernelIdeal.Skeleton
public import proofs.«01_k».proof.Proof.Gen.KernelIdeal.Launch

@[expose] public section

noncomputable section

/-! # The kernel as a loop

The printed kernel is a long straight line. Here it is written as what it is: a prologue, seven steps
of two reduce rings that run in opposite directions, an epilogue and seven steps of two gather rings.
`false` names the ring that sends to the right neighbour, `true` the one that sends to the left. -/

namespace Cert.KernelIdeal.Ring

open Idealize.ShloMosaic Idealize.SL.Sem Cert.KernelIdeal Cert.KernelIdeal.Gen

variable {F : FTy → Type} [FloatOps F]

/-- The slot of the double buffer that step `j` sends from. -/
def slotOf (j : ℕ) : Fin 2 := ⟨j % 2, Nat.mod_lt _ (by decide)⟩

/-- The two-slot buffer of a ring. -/
def comm : Bool → Memref sig .tc .vmem S2x256x8192 .bf16
  | false => Memref.whole cc0_scratch0
  | true => Memref.whole cc0_scratch1

theorem comm_whole : ∀ d, (comm d).IsWhole
  | false => Memref.isWhole_whole _
  | true => Memref.isWhole_whole _

def sendArr : Bool → DmaSems sig S2x2
  | false => cc0_scratch2
  | true => cc0_scratch4

def recvArr : Bool → DmaSems sig S2x2
  | false => cc0_scratch3
  | true => cc0_scratch5

def creditArr : Bool → Sems sig S_
  | false => cc0_scratch6
  | true => cc0_scratch7

def copyArr : Bool → DmaSems sig S2
  | false => cc0_scratch8
  | true => cc0_scratch9

theorem pair_inb : ∀ (p k : Fin 2) (a : Fin 2), (![p.val, k.val] : Fin 2 → ℕ) a + S1x1.size a ≤ S2x2.size a := by
  decide

theorem one_inb : ∀ (p : Fin 2) (a : Fin 1), (![p.val] : Fin 1 → ℕ) a + S1.size a ≤ S2.size a := by decide

def sendSem (d : Bool) (p k : Fin 2) : DmaSem sig :=
  (((sendArr d).slice (Rect.unit (s := S2x2) ![p.val, k.val] S1x1.size (pair_inb p k))).squeeze S_ squeezes_S1x1_S_).sem

def recvSem (d : Bool) (p k : Fin 2) : DmaSem sig :=
  (((recvArr d).slice (Rect.unit (s := S2x2) ![p.val, k.val] S1x1.size (pair_inb p k))).squeeze S_ squeezes_S1x1_S_).sem

def copySem (d : Bool) (p : Fin 2) : DmaSem sig :=
  (((copyArr d).slice (Rect.unit (s := S2) ![p.val] S1.size (one_inb p))).squeeze S_ squeezes_S1_S_).sem

def creditSem (d : Bool) : Sem sig := (creditArr d).sem

def barSem : Sem sig := (SemArray.scalar (sig.barrier 0 rfl) : Sems sig S_).sem

theorem sub_inb : ∀ (p k : Fin 2) (a : Fin 3),
    (![p.val, 128 * k.val, 0] : Fin 3 → ℕ) a + S1x128x8192.size a ≤ S2x256x8192.size a := by decide

theorem slot_inb : ∀ (p : Fin 2) (a : Fin 3),
    (![p.val, 0, 0] : Fin 3 → ℕ) a + S1x256x8192.size a ≤ S2x256x8192.size a := by decide

/-- Half `k` of slot `p`, as a rectangle of the two-slot buffer, -/
abbrev subRect (p k : Fin 2) : Rect S2x256x8192 :=
  Rect.unit (s := S2x256x8192) ![p.val, 128 * k.val, 0] S1x128x8192.size (sub_inb p k)

/-- and the whole slot. -/
abbrev slotRect (p : Fin 2) : Rect S2x256x8192 :=
  Rect.unit (s := S2x256x8192) ![p.val, 0, 0] S1x256x8192.size (slot_inb p)

theorem sub_words : ∀ p k : Fin 2, (subRect p k).WholeWords (EltTy.packing .bf16) := by decide
theorem sub_packed : ∀ p k : Fin 2, (subRect p k).PackedRows (EltTy.packing .bf16) := by decide
theorem slot_words : ∀ p : Fin 2, (slotRect p).WholeWords (EltTy.packing .bf16) := by decide
theorem slot_packed : ∀ p : Fin 2, (slotRect p).PackedRows (EltTy.packing .bf16) := by decide

/-- Half `k` of slot `p` of a ring's buffer: what one transfer of the reduce moves. -/
def sub (d : Bool) (p k : Fin 2) : Memref sig .tc .vmem S128x8192 .bf16 :=
  ((comm d).slice (subRect p k) (fun _ => rfl)).squeeze S128x8192 squeezes_S1x128x8192_S128x8192

/-- Slot `p` of a ring's buffer: what one transfer of the gather moves. -/
def slot (d : Bool) (p : Fin 2) : Memref sig .tc .vmem S256x8192 .bf16 :=
  ((comm d).slice (slotRect p) (fun _ => rfl)).squeeze S256x8192 squeezes_S1x256x8192_S256x8192

theorem sub_exact (d : Bool) (p k : Fin 2) : (sub d p k).view.WordExact :=
  ((comm_whole d).wordExact_slice rfl _ (sub_words p k)).reshape _ _

theorem slot_exact (d : Bool) (p : Fin 2) : (slot d p).view.WordExact :=
  ((comm_whole d).wordExact_slice rfl _ (slot_words p)).reshape _ _

theorem sub_stores (d : Bool) (p k : Fin 2) : ((comm d).access (subRect p k)).StoreExact Finset.univ :=
  (comm_whole d).storeExact_slice rfl _ (sub_packed p k)

theorem slot_stores (d : Bool) (p : Fin 2) : ((comm d).access (slotRect p)).StoreExact Finset.univ :=
  (comm_whole d).storeExact_slice rfl _ (slot_packed p)

/-- The neighbour a ring sends to: the right one, or the left one. -/
def tgt : Bool → Dev nD → Dev nD
  | false, c => ⟨k0_dev3 c, k0_dev3_lt c⟩
  | true, c => ⟨k0_dev4 c, k0_dev4_lt c⟩

/-- The rows of the staged left factor that a device adds in at reduce step `s`, half `k`. -/
def xOff : Bool → Dev nD → ℕ → ℕ → Fin 2 → ℕ
  | false, c, s, k => k0_off2 c (BitVec.ofNat 32 s) (BitVec.ofNat 32 (128 * k))
  | true, c, s, k => k0_off3 c (BitVec.ofNat 32 s) (BitVec.ofNat 32 (128 * k))

theorem xOff_inb (d : Bool) (c : Dev nD) (s : Fin 7) (k : Fin 2) :
    ∀ a, xOff d c s.val k.val a + S128x512.size a ≤ S4096x512.size a := by
  cases d
  · exact k0_off2_inb c s k
  · exact k0_off3_inb c s k

/-- Where block `T` that a ring delivers goes in the result. -/
def outOff : Bool → Dev nD → ℕ → Fin 2 → ℕ
  | false, c, 0 => k0_off4 c 1#32 0#32
  | false, c, T + 1 => k0_off5 c (BitVec.ofNat 32 T) 0#32
  | true, c, 0 => k0_off5 c 1#32 256#32
  | true, c, T + 1 => k0_off4 c (BitVec.ofNat 32 T) 256#32

theorem outOff_inb : ∀ (d : Bool) (c : Dev nD) (T : Fin 8) (a : Fin 2),
    outOff d c T.val a + S256x8192.size a ≤ S4096x8192.size a := by decide +kernel

/-- The rows of the result that block `T` of a ring goes to. -/
abbrev outRect (d : Bool) (c : Dev nD) (T : Fin 8) : Rect S4096x8192 :=
  Rect.unit (s := S4096x8192) (outOff d c T.val) S256x8192.size (outOff_inb d c T)

theorem outOff_col : ∀ (d : Bool) (c : Dev nD) (T : Fin 8), outOff d c T.val 1 = 0 := by decide +kernel

theorem outRect_words : ∀ (d : Bool) (c : Dev nD) (T : Fin 8), (outRect d c T).WholeWords (EltTy.packing .bf16) := by
  decide +kernel

/-- Block `T` of a ring in the result. -/
def outBlk (d : Bool) (c : Dev nD) (T : Fin 8) : Memref sig .tc .hbm S256x8192 .bf16 :=
  (Memref.whole main_v1).slice (outRect d c T) (fun _ => rfl)

theorem outBlk_exact (d : Bool) (c : Dev nD) (T : Fin 8) : (outBlk d c T).view.WordExact :=
  (Memref.isWhole_whole main_v1).wordExact_slice rfl _ (outRect_words d c T)

/-! ## The operations -/

/-- The programs of one core. -/
abbrev P (F : FTy → Type) := Prog (TpuEff nD τ sig (Elt F) Λ₀ .tc) PUnit

def xIn : Memref sig .tc .vmem S4096x512 .fp8e4m3 := Memref.whole cc0_stg0_0
def wIn : Memref sig .tc .vmem S512x8192 .fp8e5m2 := Memref.whole cc0_stg1_0
def sxIn : Memref sig .tc .smem S1 .f32 := Memref.whole cc0_stg2_0
def swIn : Memref sig .tc .smem S1 .f32 := Memref.whole cc0_stg3_0

def barSignal (d : Bool) (c : Dev nD) (K : P F) : P F :=
  .op (.semSignal ((tgt d c, .tc)) barSem (1#32).toInt) fun _ => K

def barWait (K : P F) : P F := .op (.semWait barSem (2#32).toInt) fun _ => K

def creditSignal (d : Bool) (c : Dev nD) (K : P F) : P F :=
  .op (.semSignal ((tgt (!d) c, .tc)) (creditSem d) (1#32).toInt) fun _ => K

def creditWait (d : Bool) (K : P F) : P F := .op (.semWait (creditSem d) (1#32).toInt) fun _ => K

/-- Send half `k` of the slot of step `j` to the neighbour's other slot. -/
def sendSub (d : Bool) (c : Dev nD) (j : ℕ) (k : Fin 2) (K : P F) : P F :=
  .op (.enqueueDma (sub d (slotOf j) k) (.remote (Dev.tc (tgt d c)) (sub d (slotOf (j + 1)) k)
      (.dma (sendSem d (slotOf j) k))) (.dma (recvSem d (slotOf (j + 1)) k)) (sub_exact d _ k) (sub_exact d _ k)
      ⟨⟨rfl, Or.inl rfl⟩, trivial⟩) fun _ => K

def sendSlot (d : Bool) (c : Dev nD) (j : ℕ) (K : P F) : P F :=
  .op (.enqueueDma (slot d (slotOf j)) (.remote (Dev.tc (tgt d c)) (slot d (slotOf (j + 1)))
      (.dma (sendSem d (slotOf j) 0))) (.dma (recvSem d (slotOf (j + 1)) 0)) (slot_exact d _) (slot_exact d _)
      ⟨⟨rfl, Or.inl rfl⟩, trivial⟩) fun _ => K

def sentSub (d : Bool) (j : ℕ) (k : Fin 2) (K : P F) : P F :=
  .op (.waitDma2 (sendSem d (slotOf j) k) (sub d (slotOf (j + 1)) k) (sub d (slotOf j) k) (sub_exact d _ k)
    (sub_exact d _ k)) fun _ => K

def gotSub (d : Bool) (j : ℕ) (k : Fin 2) (K : P F) : P F :=
  .op (.waitDma2 (recvSem d (slotOf (j + 1)) k) (sub d (slotOf j) k) (sub d (slotOf (j + 1)) k) (sub_exact d _ k)
    (sub_exact d _ k)) fun _ => K

def sentSlot (d : Bool) (j : ℕ) (K : P F) : P F :=
  .op (.waitDma2 (sendSem d (slotOf j) 0) (slot d (slotOf (j + 1))) (slot d (slotOf j)) (slot_exact d _)
    (slot_exact d _)) fun _ => K

def gotSlot (d : Bool) (j : ℕ) (K : P F) : P F :=
  .op (.waitDma2 (recvSem d (slotOf (j + 1)) 0) (slot d (slotOf j)) (slot d (slotOf (j + 1))) (slot_exact d _)
    (slot_exact d _)) fun _ => K

def blkNo (T : ℕ) : Fin 8 := ⟨T % 8, Nat.mod_lt _ (by decide)⟩
def stepNo (j : ℕ) : Fin 7 := ⟨j % 7, Nat.mod_lt _ (by decide)⟩

/-- Start the copy of block `T` to the result: it sits in slot `T + 1`. -/
def copyOut (d : Bool) (c : Dev nD) (T : ℕ) (K : P F) : P F :=
  .op (.enqueueDma (slot d (slotOf (T + 1))) (.here (outBlk d c (blkNo T)))
    (.dma (copySem d (slotOf (T + 1)))) (slot_exact d _) (outBlk_exact d c _) ⟨Or.inl rfl, trivial⟩) fun _ => K

def copied (d : Bool) (c : Dev nD) (T : ℕ) (K : P F) : P F :=
  .op (.waitDma2 (copySem d (slotOf (T + 1))) (slot d (slotOf (T + 1))) (outBlk d c (blkNo T)) (slot_exact d _)
    (outBlk_exact d c _)) fun _ => K

def loadX (d : Bool) (c : Dev nD) (j : ℕ) (k : Fin 2) (K : Vec F S128x512 .fp8e4m3 → P F) : P F :=
  .op (.load xIn (Rect.unit (s := S4096x512) (xOff d c (stepNo j).val k.val) S128x512.size
    (xOff_inb d c (stepNo j) k)).toLoadRect (View.loadsAt_vmem h_S128x512)) K

def loadW (K : Vec F S512x8192 .fp8e5m2 → P F) : P F :=
  .op (.load wIn (Rect.unit (s := S512x8192) ![0, 0] S512x8192.size inb_S512x8192_S512x8192_0_0).toLoadRect
    (View.loadsAt_vmem h_S512x8192)) K

def loadSub (d : Bool) (j : ℕ) (k : Fin 2) (K : Vec F S1x128x8192 .bf16 → P F) : P F :=
  .op (.load (comm d) (subRect (slotOf j) k).toLoadRect (View.loadsAt_vmem h_S1x128x8192)) K

def storeSub (d : Bool) (j : ℕ) (k : Fin 2) (w : Vec F S1x128x8192 .bf16) (K : P F) : P F :=
  .op (.store (comm d) (subRect (slotOf j) k) w Finset.univ
    (View.stores_vmem h_S1x128x8192 (sub_stores d _ k) (fun _ => rfl)) (.inl rfl)) fun _ => K

def loadSlot (d : Bool) (j : ℕ) (K : Vec F S1x256x8192 .bf16 → P F) : P F :=
  .op (.load (comm d) (slotRect (slotOf j)).toLoadRect (View.loadsAt_vmem h_S1x256x8192)) K

def storeSlot (d : Bool) (j : ℕ) (w : Vec F S1x256x8192 .bf16) (K : P F) : P F :=
  .op (.store (comm d) (slotRect (slotOf j)) w Finset.univ
    (View.stores_vmem h_S1x256x8192 (slot_stores d _) (fun _ => rfl)) (.inl rfl)) fun _ => K

/-! ## The loop -/

/-- Step `step i` for `i = j, …, j + n - 1`, then `K`. -/
def loop (step : ℕ → P F → P F) : ℕ → ℕ → P F → P F
  | _, 0, K => K
  | j, n + 1, K => step j (loop step (j + 1) n K)

/-- Half `k` arrives in ring `d` and the device's own product `m` is added to it. -/
def takeSub (d : Bool) (j : ℕ) (k : Fin 2) (m : FVec F S128x8192 .f32) (K : P F) : P F :=
  sentSub d j k <| gotSub d j k <| loadSub d (j + 1) k fun o => loadSub d (j + 1) k fun _ =>
    storeSub d (j + 1) k (k0_pay8 m o) K

def addHalf (c : Dev nD) (j : ℕ) (k : Fin 2) (K : P F) : P F :=
  loadX false c j k fun xf => loadW fun wf => loadX true c j k fun xr => loadW fun wr =>
    takeSub false j k (k0_pay5 xf wf) <| takeSub true j k (k0_pay5 xr wr) K

def reduceCore (c : Dev nD) (j : ℕ) (K : P F) : P F :=
  sendSub false c j 0 <| sendSub true c j 0 <| sendSub false c j 1 <| sendSub true c j 1 <|
    addHalf c j 0 <| addHalf c j 1 <| creditSignal false c <| creditSignal true c K

def reduceStep (c : Dev nD) (j : ℕ) (K : P F) : P F :=
  creditWait false <| creditWait true <| reduceCore c j K

/-- Sum the parts of a slot, scale and apply the activation. -/
def finishSlot (d : Bool) (a b : Elt F .f32) (K : P F) : P F :=
  loadSlot d 7 fun v => loadSlot d 7 fun _ => storeSlot d 7 (k0_pay71 (k0_pay67 a b) v) K

def epilogue (c : Dev nD) (K : P F) : P F :=
  (smemLoad sxIn (Rect.unit (s := S1) ![0] S1.size inb_S1_S1_0) numel1_S1 rfl).bind fun a =>
  (smemLoad swIn (Rect.unit (s := S1) ![0] S1.size inb_S1_S1_0) numel1_S1 rfl).bind fun b =>
  finishSlot false a b <| finishSlot true a b <| copyOut false c 0 <| copyOut true c 0 K

def gatherCore (c : Dev nD) (T : ℕ) (K : P F) : P F :=
  creditWait false <| creditWait true <|
  sendSlot false c (T + 7) <| sendSlot true c (T + 7) <|
  sentSlot false (T + 7) <| gotSlot false (T + 7) <| sentSlot true (T + 7) <| gotSlot true (T + 7) <|
  copyOut false c (T + 1) <| copyOut true c (T + 1) <| copied false c T <| copied true c T K

def gatherStep (c : Dev nD) (T : ℕ) (K : P F) : P F :=
  gatherCore c T <| creditSignal false c <| creditSignal true c K

def initSlot (d : Bool) (c : Dev nD) (K : P F) : P F :=
  .op (.load xIn (Rect.unit (s := S4096x512) (k0_off1 c (BitVec.ofNat 32 (256 * d.toNat))) S256x512.size
    (match d with | false => k0_off1_inb c 0 | true => k0_off1_inb c 1)).toLoadRect (View.loadsAt_vmem h_S256x512))
    fun x => loadW fun w => loadSlot d 0 fun _ => storeSlot d 0 (k0_pay3 x w) K

/-- The kernel of one device. -/
def body : P F :=
  .op .deviceId fun c => barSignal true c <| barSignal false c <| barWait <|
    initSlot false c <| initSlot true c <| reduceCore c 0 <| loop (reduceStep c) 1 6 <| epilogue c <|
    loop (gatherStep c) 0 6 <| gatherCore c 6 <| copied false c 7 <| copied true c 7 <| .ret ⟨⟩

set_option maxRecDepth 65536 in
theorem bodyAt_eq (t : Fin cfg0.N) : bodyAt0 (F := F) t = body := by
  have ht : t = t0_0 := fin_N0 t
  subst ht
  rfl

end Cert.KernelIdeal.Ring
-- ==== Proof.Contents.lean ====
module

public import proofs.«01_k».proof.Proof.Prog
public import Idealize.ShloMosaic.Lib.Pipeline.Launch
public import Idealize.ShloMosaic.Lib.Pipeline.Kit
public import Idealize.ShloMosaic.Lib.Tactic
public import Idealize.ShloMosaic.Lib.MemrefSat

@[expose] public section

noncomputable section

/-! # What the buffers hold

The neighbours on the two rings, the halves of a slot, and the values that the slots go through: the
running sums of the reduce rings (`sumAt`) and the finished blocks (`fin`) that the gather rings carry on. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## The rings -/

/-- The neighbour that ring `d` receives from. -/
def src (d : Bool) (c : Dev nD) : Dev nD := tgt (!d) c

theorem src_tgt : ∀ (d : Bool) (c : Dev nD), src d (tgt d c) = c := by decide +kernel
theorem tgt_src : ∀ (d : Bool) (c : Dev nD), tgt d (src d c) = c := by decide +kernel

/-- One step along ring `d`, as a permutation of the devices. -/
def ring (d : Bool) : Dev nD ≃ Dev nD := ⟨tgt d, src d, src_tgt d, tgt_src d⟩

/-- The device `T` places before `c` on ring `d`. -/
def back (d : Bool) (T : ℕ) (c : Dev nD) : Dev nD := (src d)^[T] c

theorem back_zero (d : Bool) (c : Dev nD) : back d 0 c = c := rfl
theorem back_succ (d : Bool) (T : ℕ) (c : Dev nD) : back d (T + 1) c = back d T (src d c) := rfl

/-! ## Halves and slots -/

/-- Half `k` of slot `p`, with its leading unit axis. -/
def half (d : Bool) (p k : Fin 2) : Memref sig .tc .vmem S1x128x8192 .bf16 :=
  (comm d).slice (subRect p k) (fun _ => rfl)

/-- Slot `p`, with its leading unit axis. -/
def full (d : Bool) (p : Fin 2) : Memref sig .tc .vmem S1x256x8192 .bf16 :=
  (comm d).slice (slotRect p) (fun _ => rfl)

theorem halfRect_inb : ∀ (k : Fin 2) (a : Fin 3),
    (![0, 128 * k.val, 0] : Fin 3 → ℕ) a + S1x128x8192.size a ≤ S1x256x8192.size a := by decide

/-- Half `k` of one slot. -/
abbrev halfRect (k : Fin 2) : Rect S1x256x8192 :=
  Rect.unit (s := S1x256x8192) ![0, 128 * k.val, 0] S1x128x8192.size (halfRect_inb k)

/-- The index inside its half of an index of a slot. -/
def inHalf (i : S1x256x8192.Idx) : S1x128x8192.Idx := fun
  | ⟨0, _⟩ => ⟨(i 0).val, (i 0).isLt⟩
  | ⟨1, _⟩ => ⟨(i 1).val % 128, Nat.mod_lt _ (by decide)⟩
  | ⟨2, _⟩ => ⟨(i 2).val, (i 2).isLt⟩

/-- The half an index of a slot is in. -/
def halfNo (i : S1x256x8192.Idx) : Fin 2 :=
  ⟨(i 1).val / 128, Nat.div_lt_of_lt_mul (i 1).isLt⟩

/-- Two halves put together. -/
def glue {α : Type} (A : Fin 2 → S1x128x8192.Idx → α) (i : S1x256x8192.Idx) : α := A (halfNo i) (inHalf i)

theorem halfRect_val (k : Fin 2) (j : S1x128x8192.Idx) (a : Fin 3) :
    ((halfRect k).emb j a).val = (![0, 128 * k.val, 0] : Fin 3 → ℕ) a + (j a).val := by
  rw [Rect.emb_apply]; simp [Rect.unit]

theorem halfNo_emb (k : Fin 2) (j : S1x128x8192.Idx) : halfNo ((halfRect k).emb j) = k := by
  refine Fin.ext ?_
  have h1 : (j 1).val < 128 := (j 1).isLt
  show ((halfRect k).emb j 1).val / 128 = k.val
  rw [halfRect_val]
  show (128 * k.val + (j 1).val) / 128 = k.val
  omega

theorem inHalf_emb (k : Fin 2) (j : S1x128x8192.Idx) : inHalf ((halfRect k).emb j) = j := by
  have h1 : (j 1).val < 128 := (j 1).isLt
  funext a
  refine Fin.ext ?_
  match a with
  | ⟨0, _⟩ => exact (halfRect_val k j 0).trans (Nat.zero_add _)
  | ⟨1, _⟩ =>
    show ((halfRect k).emb j 1).val % 128 = (j 1).val
    rw [halfRect_val]
    show (128 * k.val + (j 1).val) % 128 = (j 1).val
    omega
  | ⟨2, _⟩ => exact (halfRect_val k j 2).trans (Nat.zero_add _)

theorem glue_emb {α : Type} (A : Fin 2 → S1x128x8192.Idx → α) (k : Fin 2) (j : S1x128x8192.Idx) :
    glue A ((halfRect k).emb j) = A k j := by
  unfold glue; rw [halfNo_emb, inHalf_emb]

theorem emb_inHalf (i : S1x256x8192.Idx) : (halfRect (halfNo i)).emb (inHalf i) = i := by
  funext a
  refine Fin.ext ?_
  rw [halfRect_val]
  match a with
  | ⟨0, _⟩ => exact Nat.zero_add _
  | ⟨1, _⟩ => exact Nat.div_add_mod _ _
  | ⟨2, _⟩ => exact Nat.zero_add _

/-- What a slot without its unit axis reads. -/
def flat {α : Type} (X : S1x256x8192.Idx → α) (i : S256x8192.Idx) : α :=
  X (Shape.reshapeEquiv squeezes_S1x256x8192_S256x8192.numel_eq i)

/-! ## Values -/

variable (m : (ℓ : Loc nD τ sig) → Buf (Elt F) ℓ)

/-- What the launch stages of the four operands. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def sxstg (c : Dev nD) : (cc0_stg2_0 : Ref sig .tc).ty.Contents (Elt F) :=
  (win0_2.blk (0 : Fin 1)).view.read (Elt F) (m ((c : Thread nD τ).loc main_arg2))
def swstg (c : Dev nD) : (cc0_stg3_0 : Ref sig .tc).ty.Contents (Elt F) :=
  (win0_3.blk (0 : Fin 1)).view.read (Elt F) (m ((c : Thread nD τ).loc main_arg3))

/-- The rows of the left factor that device `c` multiplies at reduce step `j`, half `k`. -/
def xRows (d : Bool) (c : Dev nD) (j : ℕ) (k : Fin 2) : Vec F S128x512 .fp8e4m3 :=
  xIn.view.readAt (Elt F) (Rect.unit (s := S4096x512) (xOff d c (stepNo j).val k.val) S128x512.size
    (xOff_inb d c (stepNo j) k)).toLoadRect (xstg m c)

theorem xInit_inb : ∀ (d : Bool) (c : Dev nD) (a : Fin 2),
    k0_off1 c (BitVec.ofNat 32 (256 * d.toNat)) a + S256x512.size a ≤ S4096x512.size a
  | false, c => k0_off1_inb c 0
  | true, c => k0_off1_inb c 1

/-- The rows it starts from. -/
def xInit (d : Bool) (c : Dev nD) : Vec F S256x512 .fp8e4m3 :=
  xIn.view.readAt (Elt F) (Rect.unit (s := S4096x512) (k0_off1 c (BitVec.ofNat 32 (256 * d.toNat))) S256x512.size
    (xInit_inb d c)).toLoadRect (xstg m c)

/-- The right factor. -/
def wAll (c : Dev nD) : Vec F S512x8192 .fp8e5m2 :=
  wIn.view.readAt (Elt F) (Rect.unit (s := S512x8192) ![0, 0] S512x8192.size inb_S512x8192_S512x8192_0_0).toLoadRect
    (wstg m c)

/-- The two scales. -/
def sxAt (c : Dev nD) : Elt F .f32 :=
  ((sxIn.access (Rect.unit (s := S1) ![0] S1.size inb_S1_S1_0)).read (Elt F) (sxstg m c))
    (Shape.Idx.first (numel1_S1.symm ▸ Nat.one_pos))
def swAt (c : Dev nD) : Elt F .f32 :=
  ((swIn.access (Rect.unit (s := S1) ![0] S1.size inb_S1_S1_0)).read (Elt F) (swstg m c))
    (Shape.Idx.first (numel1_S1.symm ▸ Nat.one_pos))

/-- Half `k` of what device `c` sends at step `j` of reduce ring `d`: the sum of `j + 1` products. -/
def sumAt (d : Bool) : ℕ → Dev nD → Fin 2 → Vec F S1x128x8192 .bf16
  | 0, c, k => fun i => k0_pay3 (xInit m d c) (wAll m c) ((halfRect k).emb i)
  | j + 1, c, k => k0_pay8 (k0_pay5 (xRows m d c j k) (wAll m c)) (sumAt d j (src d c) k)

/-- The block of the result that device `c` finishes on ring `d`. -/
def fin (d : Bool) (c : Dev nD) : Vec F S1x256x8192 .bf16 :=
  k0_pay71 (k0_pay67 (sxAt m c) (swAt m c)) (glue (sumAt m d 7 c))

/-- The device that finishes the rows of chunk `q` on ring `d`. -/
def chunkDev (d : Bool) (q : Fin 8) : Dev nD := src d ⟨q.val, q.isLt⟩

/-- An index of the result inside its block. -/
def inBlk (i : S4096x8192.Idx) : S1x256x8192.Idx := fun
  | ⟨0, _⟩ => ⟨0, Nat.one_pos⟩
  | ⟨1, _⟩ => ⟨(i 0).val % 256, Nat.mod_lt _ (by decide)⟩
  | ⟨2, _⟩ => ⟨(i 1).val, (i 1).isLt⟩

/-- The result, on every device. -/
def outAll (i : S4096x8192.Idx) : Elt F .bf16 :=
  fin m (decide ((i 0).val / 256 % 2 = 1))
    (chunkDev (decide ((i 0).val / 256 % 2 = 1)) ⟨(i 0).val / 512, Nat.div_lt_of_lt_mul (i 0).isLt⟩) (inBlk i)

end Cert.KernelIdeal.Ring
-- ==== Proof.Sched.lean ====
module

public import proofs.«01_k».proof.Proof.Contents

@[expose] public section

noncomputable section

/-! # The schedule of the rings' semaphores

Every semaphore of the two rings is used in rounds. A transfer of step `j` (reduce steps `0 … 6`, gather
steps `7 … 13`) uses round `j / 2` of the semaphores of the two slots it runs between. A signal of a round
hands over what the waiting device may then use: the slot received, the slot sent back, or the permission to
write the neighbour's free slot. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The semaphores -/

/-- The semaphores of the rings, by what they are for. -/
inductive Kd
  | bar
  | credit (d : Bool)
  | send (d : Bool) (p k : Fin 2)
  | recv (d : Bool) (p k : Fin 2)
  | copy (d : Bool) (p : Fin 2)
  deriving DecidableEq

/-- The semaphores as a sum. -/
def kdEquiv : (Unit ⊕ Bool) ⊕ (Bool × Fin 2 × Fin 2) ⊕ (Bool × Fin 2 × Fin 2) ⊕ (Bool × Fin 2) ≃ Kd where
  toFun
    | .inl (.inl _) => .bar
    | .inl (.inr d) => .credit d
    | .inr (.inl x) => .send x.1 x.2.1 x.2.2
    | .inr (.inr (.inl x)) => .recv x.1 x.2.1 x.2.2
    | .inr (.inr (.inr x)) => .copy x.1 x.2
  invFun
    | .bar => .inl (.inl ())
    | .credit d => .inl (.inr d)
    | .send d p k => .inr (.inl (d, p, k))
    | .recv d p k => .inr (.inr (.inl (d, p, k)))
    | .copy d p => .inr (.inr (.inr (d, p)))
  left_inv := by rintro ((_ | _) | _ | _ | _) <;> rfl
  right_inv := by rintro (_ | _ | _ | _ | _) <;> rfl

instance : Fintype Kd := Fintype.ofEquiv _ kdEquiv

def sm : Kd → SemLoc sig
  | .bar => .reg barSem
  | .credit d => .reg (creditSem d)
  | .send d p k => .dma (sendSem d p k)
  | .recv d p k => .dma (recvSem d p k)
  | .copy d p => .dma (copySem d p)

theorem sm_inj : Function.Injective sm := by
  have h : ∀ a b : Kd, sm a = sm b → a = b := by decide +kernel
  exact fun a b => h a b

/-- What a semaphore is for. -/
def kindOf (s : SemLoc sig) : Option Kd := by
  classical exact if h : ∃ k, sm k = s then some h.choose else none

theorem kindOf_sm (k : Kd) : kindOf (sm k) = some k := by
  unfold kindOf
  have h : ∃ k', sm k' = sm k := ⟨k, rfl⟩
  rw [dif_pos h]
  exact congrArg some (sm_inj h.choose_spec)

abbrev cell (c : Dev nD) (k : Kd) : GSem nD τ sig := ((c : Thread nD τ), sm k)

theorem cell_inj {c c' : Dev nD} {k k' : Kd} (h : cell c k = cell c' k') : c = c' ∧ k = k' := by
  refine ⟨?_, sm_inj (congrArg Prod.snd h)⟩
  exact congrArg (fun g : GSem nD τ sig => g.1.1) h

/-! ## The resource algebra -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Payloads -/

variable (m : (ℓ : Loc nD τ sig) → Buf (Elt F) ℓ)

/-- The neighbour's slot that the transfer of step `j` writes is free: it is this device's, at any contents, and the
    neighbour is ready to receive there. -/
def perm (d : Bool) (c : Dev nD) (j : ℕ) : sProp 𝕄 :=
  if j < 7 then
    iprop(((∃ X, owns (tgt d c : Thread nD τ) (half d (slotOf (j + 1)) 0) fullShare X)
        ∗ reached ER (cell (tgt d c) (.recv d (slotOf (j + 1)) 0)) (j / 2))
      ∗ ((∃ X, owns (tgt d c : Thread nD τ) (half d (slotOf (j + 1)) 1) fullShare X)
        ∗ reached ER (cell (tgt d c) (.recv d (slotOf (j + 1)) 1)) (j / 2)))
  else
    iprop((∃ X, owns (tgt d c : Thread nD τ) (full d (slotOf (j + 1))) fullShare X)
      ∗ reached ER (cell (tgt d c) (.recv d (slotOf (j + 1)) 0)) (j / 2))

/-- The block `T` of gather ring `d` on device `c`. -/
def blkAt (d : Bool) (T : ℕ) (c : Dev nD) : Vec F S1x256x8192 .bf16 := fin m d (back d T c)

/-- What comes back when the transfer of step `j` has been read out. -/
def sentPay (d : Bool) (c : Dev nD) (j : ℕ) (k : Fin 2) : sProp 𝕄 :=
  if j < 7 then owns (c : Thread nD τ) (half d (slotOf j) k) fullShare (sumAt m d j c k)
  else owns (c : Thread nD τ) (full d (slotOf j)) fullShare.left (blkAt m d (j - 7) c)

/-- What the transfer of step `j` delivers. -/
def gotPay (d : Bool) (c : Dev nD) (j : ℕ) (k : Fin 2) : sProp 𝕄 :=
  iprop((if j < 7 then owns (c : Thread nD τ) (half d (slotOf (j + 1)) k) fullShare (sumAt m d j (src d c) k)
    else owns (c : Thread nD τ) (full d (slotOf (j + 1))) fullShare (blkAt m d (j - 7 + 1) c))
      ∗ reached ER (cell (src d c) (.credit d)) j)

/-- What the copy of block `T` gives back and delivers. -/
def copyPay (d : Bool) (c : Dev nD) (T : ℕ) : sProp 𝕄 :=
  iprop(owns (c : Thread nD τ) (full d (slotOf (T + 1))) fullShare.right (blkAt m d T c)
    ∗ owns (c : Thread nD τ) (outBlk d c (blkNo T)) fullShare (flat (blkAt m d T c)))

omit [FloatOps F] in
instance perm_storable (d : Bool) (c : Dev nD) (j : ℕ) : BI.Storable (upEmb : UEmb _ 𝕄) (perm (F := F) d c j) := by
  unfold perm; split <;> infer_instance
instance sentPay_storable (d : Bool) (c : Dev nD) (j : ℕ) (k : Fin 2) :
    BI.Storable (upEmb : UEmb _ 𝕄) (sentPay m d c j k) := by
  unfold sentPay; split <;> infer_instance
instance gotPay_storable (d : Bool) (c : Dev nD) (j : ℕ) (k : Fin 2) :
    BI.Storable (upEmb : UEmb _ 𝕄) (gotPay m d c j k) := by
  unfold gotPay; split <;> infer_instance
instance copyPay_storable (d : Bool) (c : Dev nD) (T : ℕ) : BI.Storable (upEmb : UEmb _ 𝕄) (copyPay m d c T) := by
  unfold copyPay; infer_instance

/-! ## The schedule -/

/-- The units of one transfer of a half, of a slot, and of the copy of a block. -/
def NH : ℕ := (sub false 0 0).view.dmaCredit
def NS : ℕ := (slot false 0).view.dmaCredit
def NB : ℕ := (outBlk false 0 0).view.dmaCredit

theorem sub_credit : ∀ (d : Bool) (p k : Fin 2), (sub d p k).view.dmaCredit = NH := by decide +kernel
theorem slot_credit : ∀ (d : Bool) (p : Fin 2), (slot d p).view.dmaCredit = NS := by decide +kernel
theorem outBlk_credit (d : Bool) (c : Dev nD) (T : Fin 8) : (outBlk d c T).view.dmaCredit = NB := by
  unfold NB View.dmaCredit; congr 1

theorem NH_pos : 0 < NH := View.dmaCredit_pos _ (by decide +kernel)
theorem NS_pos : 0 < NS := View.dmaCredit_pos _ (by decide +kernel)
theorem NB_pos : 0 < NB := View.dmaCredit_pos _ (by decide +kernel)

/-- The units of the transfer of step `j`. -/
def stepUnits (j : ℕ) : ℕ := if j < 7 then NH else NS

/-- The steps that use half `k`'s semaphores: the gather rings use the first only. -/
def steps (k : Fin 2) : ℕ := if k = 0 then 14 else 7

def dutiesK : Kd → ℕ → Finset Bool
  | .bar, r => if r = 0 then Finset.univ else ∅
  | .credit _, r => if r < 13 then {false} else ∅
  | .send _ p k, r => if 2 * r + p.val < steps k then {false} else ∅
  | .recv _ p k, r => if 2 * r + 1 - p.val < steps k then {false} else ∅
  | .copy _ p, r => if 2 * r + 1 - p.val < 8 then {false} else ∅

def amountK : Kd → ℕ → ℕ
  | .bar, _ => 1
  | .credit _, _ => 1
  | .send _ p _, r => stepUnits (2 * r + p.val)
  | .recv _ p _, r => stepUnits (2 * r + 1 - p.val)
  | .copy _ _, _ => NB

def payK (c : Dev nD) : Kd → ℕ → Bool → sProp 𝕄
  | .bar, _, d => perm d c 0
  | .credit d, r, _ => perm d c (r + 1)
  | .send d p k, r, _ => sentPay m d c (2 * r + p.val) k
  | .recv d p k, r, _ => gotPay m d c (2 * r + 1 - p.val) k
  | .copy d p, r, _ => copyPay m d c (2 * r + 1 - p.val)

theorem stepUnits_pos (j : ℕ) : 0 < stepUnits j := by
  unfold stepUnits; split; exacts [NH_pos, NS_pos]

theorem amountK_pos (k : Kd) (r : ℕ) : 0 < amountK k r := by
  cases k
  · exact Nat.one_pos
  · exact Nat.one_pos
  · exact stepUnits_pos _
  · exact stepUnits_pos _
  · exact NB_pos

def sched : Rounds.Schedule (GSem nD τ sig) Bool 𝕄 where
  duties g r := if g.1.2 = .tc then (match kindOf g.2 with | some k => dutiesK k r | none => ∅) else ∅
  amount g r _ := match kindOf g.2 with | some k => amountK k r | none => 1
  payload g r d := match kindOf g.2 with | some k => payK m g.1.1 k r d | none => iprop(emp)
  amount_pos g r _ _ := by
    split
    · exact amountK_pos _ _
    · exact Nat.one_pos

instance payK_storable (c : Dev nD) (k : Kd) (r : ℕ) (d : Bool) :
    BI.Storable (upEmb : UEmb _ 𝕄) (payK m c k r d) := by
  cases k <;> unfold payK <;> infer_instance

instance sched_storable (g : GSem nD τ sig) (r : ℕ) (d : Bool) :
    BI.Storable (upEmb : UEmb _ 𝕄) ((sched m).payload g r d) := by
  unfold sched
  dsimp only
  split <;> infer_instance

theorem sched_duties (c : Dev nD) (k : Kd) (r : ℕ) : (sched m).duties (cell c k) r = dutiesK k r := by
  dsimp only [sched]; rw [if_pos rfl, kindOf_sm]
theorem sched_amount (c : Dev nD) (k : Kd) (r : ℕ) (d : Bool) : (sched m).amount (cell c k) r d = amountK k r := by
  dsimp only [sched]; rw [kindOf_sm]
theorem sched_payload (c : Dev nD) (k : Kd) (r : ℕ) (d : Bool) : (sched m).payload (cell c k) r d = payK m c k r d := by
  dsimp only [sched]; rw [kindOf_sm]

theorem sched_expect_one (c : Dev nD) (k : Kd) (r : ℕ) (h : dutiesK k r = {false}) :
    (sched m).expect (cell c k) r = amountK k r := by
  unfold Schedule.expect Schedule.amountOf
  rw [sched_duties, h, Finset.sum_singleton, sched_amount]

theorem sched_expect_bar (c : Dev nD) : (sched m).expect (cell c .bar) 0 = 2 := by
  unfold Schedule.expect Schedule.amountOf
  rw [sched_duties, Finset.sum_congr rfl fun d _ => sched_amount m c .bar 0 d]
  decide

theorem sched_rest_one (c : Dev nD) (k : Kd) (r : ℕ) (h : dutiesK k r = {false}) :
    bigSep ((sched m).duties (cell c k) r \ ∅) (fun d => (sched m).payload (cell c k) r d) = payK m c k r false := by
  rw [Finset.sdiff_empty, sched_duties, h, bigSep_singleton, sched_payload]

theorem sched_rest_bar (c : Dev nD) :
    bigSep ((sched m).duties (cell c .bar) 0 \ ∅) (fun d => (sched m).payload (cell c .bar) 0 d)
      = iprop(perm (F := F) false c 0 ∗ perm true c 0) := by
  rw [Finset.sdiff_empty, sched_duties, show dutiesK .bar 0 = Finset.univ from rfl,
    bigSep_univ_eq_bigSepL [false, true] (by decide) (by decide), bigSepL_cons_cons, bigSepL_singleton,
    sched_payload, sched_payload]
  rfl

/-! ## The rounds of a step -/

theorem slotOf_val (j : ℕ) : (slotOf j).val = j % 2 := rfl
theorem slotOf_add_two (j : ℕ) : slotOf (j + 2) = slotOf j := Fin.ext (Nat.add_mod_right _ _)

theorem send_step (j : ℕ) : 2 * (j / 2) + (slotOf j).val = j := by rw [slotOf_val]; omega
theorem recv_step (j : ℕ) : 2 * (j / 2) + 1 - (slotOf (j + 1)).val = j := by rw [slotOf_val]; omega

theorem duties_send (d : Bool) (j : ℕ) (k : Fin 2) (h : j < steps k) : dutiesK (.send d (slotOf j) k) (j / 2) = {false} := by
  dsimp only [dutiesK]; rw [send_step, if_pos h]
theorem duties_recv (d : Bool) (j : ℕ) (k : Fin 2) (h : j < steps k) :
    dutiesK (.recv d (slotOf (j + 1)) k) (j / 2) = {false} := by
  dsimp only [dutiesK]; rw [recv_step, if_pos h]
theorem duties_copy (d : Bool) (T : ℕ) (h : T < 8) : dutiesK (.copy d (slotOf (T + 1))) (T / 2) = {false} := by
  dsimp only [dutiesK]; rw [recv_step, if_pos h]
theorem duties_credit (d : Bool) (i : ℕ) (h : i < 13) : dutiesK (.credit d) i = {false} := if_pos h

theorem amount_send (d : Bool) (j : ℕ) (k : Fin 2) : amountK (.send d (slotOf j) k) (j / 2) = stepUnits j := by
  dsimp only [amountK]; rw [send_step]
theorem amount_recv (d : Bool) (j : ℕ) (k : Fin 2) : amountK (.recv d (slotOf (j + 1)) k) (j / 2) = stepUnits j := by
  dsimp only [amountK]; rw [recv_step]

theorem pay_send (c : Dev nD) (d : Bool) (j : ℕ) (k : Fin 2) (b : Bool) :
    payK m c (.send d (slotOf j) k) (j / 2) b = sentPay m d c j k := by
  dsimp only [payK]; rw [send_step]
theorem pay_recv (c : Dev nD) (d : Bool) (j : ℕ) (k : Fin 2) (b : Bool) :
    payK m c (.recv d (slotOf (j + 1)) k) (j / 2) b = gotPay m d c j k := by
  dsimp only [payK]; rw [recv_step]
theorem pay_copy (c : Dev nD) (d : Bool) (T : ℕ) (b : Bool) :
    payK m c (.copy d (slotOf (T + 1))) (T / 2) b = copyPay m d c T := by
  dsimp only [payK]; rw [recv_step]

end Cert.KernelIdeal.Ring
-- ==== Proof.Ops.lean ====
module

public import proofs.«01_k».proof.Proof.Sched

@[expose] public section

noncomputable section

/-! # One rule for each operation

What a device owes its neighbours, and, for each operation of the program, what it takes and what it leaves. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Debts -/

abbrev Debt := CellTallies nD τ sig ℕ

/-- Everything owed in `O` is owed at an index above `n`. -/
def Above (n : ℕ) (O : Debt) : Prop :=
  ∀ (g : GSem nD τ sig) (u : ℕ), 0 < O g u → g.1.2 = .tc ∧ n < u ∧ u < 40

theorem above_zero (n : ℕ) : Above n 0 := fun g u h => absurd h (Nat.lt_irrefl 0)

theorem above_add {n : ℕ} {O O' : Debt} (h : Above n O) (h' : Above n O') : Above n (O + O') := by
  intro g u hp
  rw [Pi.add_apply, Finsupp.add_apply] at hp
  rcases Nat.eq_zero_or_pos (O g u) with h0 | h0
  · exact h' g u (by omega)
  · exact h g u h0

theorem above_mono {n n' : ℕ} {O : Debt} (hn : n' ≤ n) (h : Above n O) : Above n' O :=
  fun g u hp => ⟨(h g u hp).1, lt_of_le_of_lt hn (h g u hp).2.1, (h g u hp).2.2⟩

theorem above_tally {n : ℕ} (c : Dev nD) (k : Kd) (i a : ℕ) (h : n < i) (h' : i < 40) : Above n (tallyAt (cell c k) i a) := by
  intro g u hp
  rw [tallyAt_apply] at hp
  by_cases hg : g = cell c k ∧ u = i
  · rw [hg.1, hg.2]; exact ⟨rfl, h, h'⟩
  · rw [if_neg hg] at hp; exact absurd hp (Nat.lt_irrefl 0)

/-- The transfer of step `j`, half `k`, owed to the neighbour's receive semaphore. -/
def sendDebt (d : Bool) (c : Dev nD) (j : ℕ) (k : Fin 2) : Debt :=
  tallyAt (cell (tgt d c) (.recv d (slotOf (j + 1)) k)) (2 * j + 2) (stepUnits j)

/-- The credit of round `i`, owed to the neighbour that sends here. -/
def creditDebt (d : Bool) (c : Dev nD) (i : ℕ) : Debt :=
  tallyAt (cell (src d c) (.credit d)) (2 * i + 3) 1

/-- The transfers of step `j`, in the order they start. -/
def sendsDebt (c : Dev nD) (j : ℕ) : Debt :=
  if j < 7 then ((sendDebt true c j 1 + sendDebt false c j 1) + sendDebt true c j 0) + sendDebt false c j 0
  else sendDebt true c j 0 + sendDebt false c j 0

/-- The credits given at the end of step `j`: none at the last. -/
def creditsDebt (c : Dev nD) (j : ℕ) : Debt :=
  if j < 13 then creditDebt true c j + creditDebt false c j else 0

/-- All that is owed at the start of the last `n` of the fourteen steps. -/
def laterDebt (c : Dev nD) : ℕ → Debt
  | 0 => 0
  | n + 1 => laterDebt c n + creditsDebt c (13 - n) + sendsDebt c (13 - n)

/-- All that is owed at the start of step `j`. -/
def owed (c : Dev nD) (j : ℕ) : Debt := laterDebt c (14 - j)

theorem owed_last (c : Dev nD) : owed c 14 = 0 := rfl

theorem owed_step (c : Dev nD) (j : ℕ) (h : j < 14) :
    owed c j = owed c (j + 1) + creditsDebt c j + sendsDebt c j := by
  unfold owed
  rw [show 14 - j = (14 - (j + 1)) + 1 by omega, laterDebt, show 13 - (14 - (j + 1)) = j by omega]

theorem above_sends (c : Dev nD) (j n : ℕ) (h : n < 2 * j + 2) (hj : j < 14) : Above n (sendsDebt c j) := by
  have hs : ∀ d k, Above n (sendDebt d c j k) := fun d k => above_tally _ _ _ _ h (by omega)
  unfold sendsDebt; split
  · exact above_add (above_add (above_add (hs _ _) (hs _ _)) (hs _ _)) (hs _ _)
  · exact above_add (hs _ _) (hs _ _)

theorem above_credits (c : Dev nD) (j n : ℕ) (h : n < 2 * j + 3) : Above n (creditsDebt c j) := by
  unfold creditsDebt; split
  · exact above_add (above_tally _ _ _ _ h (by omega)) (above_tally _ _ _ _ h (by omega))
  · exact above_zero n

theorem above_later (c : Dev nD) (n b : ℕ) (hn : n ≤ 14) (h : b < 2 * (14 - n) + 2) : Above b (laterDebt c n) := by
  induction n with
  | zero => exact above_zero b
  | succ n ih =>
    refine above_add (above_add (ih (by omega) (by omega)) (above_credits c _ b (by omega))) (above_sends c _ b (by omega) (by omega))

theorem above_owed (c : Dev nD) (j b : ℕ) (h : b < 2 * j + 2) : Above b (owed c j) := by
  unfold owed
  rcases Nat.lt_or_ge 14 j with hj | hj
  · rw [show 14 - j = 0 by omega]; exact above_zero b
  · exact above_later c _ b (by omega) (by omega)

/-- What is owed once the transfers of step `j` have started. -/
theorem above_rest (c : Dev nD) (j b : ℕ) (h : b < 2 * j + 3) : Above b (owed c (j + 1) + creditsDebt c j) :=
  above_add (above_owed c (j + 1) b (by omega)) (above_credits c j b h)

/-! ## Levels -/

def L (g : GSem nD τ sig) : Finset ℕ := if g.1.2 = .tc then Finset.range 40 else ∅
def lv (_ : GSem nD τ sig) (i : ℕ) : ℕ := i

theorem L_tc (c : Dev nD) (s : SemLoc sig) : L ((c : Thread nD τ), s) = Finset.range 40 := if_pos rfl

omit [FloatOps F] in
theorem mayWait (c : Dev nD) (s : SemLoc sig) (i : ℕ) (hi : i < 40) {O : Debt} (h : Above i O) :
    (levAts L lv : sProp 𝕄) ⊢ MayWait (c : Thread nD τ) s i O :=
  MayOwe.of_cut (L := L) (lev := lv) i
    (fun p hp => by rw [Finset.mem_singleton.mp hp, L_tc]; exact Finset.mem_range.mpr hi)
    (fun g u hg => by unfold L; rw [if_pos (h g u hg).1]; exact Finset.mem_range.mpr (h g u hg).2.2)
    (fun p hp => by rw [Finset.mem_singleton.mp hp]; exact le_refl _)
    (fun g u hg => (h g u hg).2.1)

/-! ## What every operation may use -/

abbrev 𝒱₀ : Variants := Variants.none

variable (m : (ℓ : Loc nD τ sig) → Buf (Elt F) ℓ) (K : Dev nD × Kd → ℕ)

/-- Every semaphore's invariant, every semaphore's first round, and the levels. -/
def ctx : sProp 𝕄 :=
  iprop((bigSep Finset.univ fun x : Dev nD × Kd => cellInv ER (sched m) (K x) (cell x.1 x.2))
    ∗ (bigSep Finset.univ fun x : Dev nD × Kd => reached ER (cell x.1 x.2) 0) ∗ levAts L lv)

instance ctx_persistent : BI.Persistent (ctx m K) := by unfold ctx; infer_instance

theorem ctx_inv (c : Dev nD) (k : Kd) : ctx m K ⊢ cellInv ER (sched m) (K (c, k)) (cell c k) := by
  unfold ctx
  iintro ⟨H, -, -⟩
  iapply (show (bigSep Finset.univ fun x : Dev nD × Kd => cellInv ER (sched m) (K x) (cell x.1 x.2))
    ⊢ cellInv ER (sched m) (K (c, k)) (cell c k) from bigSep_elim (Finset.mem_univ (c, k)))
  iexact H

theorem ctx_reached (c : Dev nD) (k : Kd) : ctx m K ⊢ reached ER (cell c k) 0 := by
  unfold ctx
  iintro ⟨-, H, -⟩
  iapply (show (bigSep Finset.univ fun x : Dev nD × Kd => (reached ER (cell x.1 x.2) 0 : sProp 𝕄))
    ⊢ reached ER (cell c k) 0 from bigSep_elim (Finset.mem_univ (c, k)))
  iexact H

theorem ctx_lev : ctx m K ⊢ levAts L lv := by
  unfold ctx
  iintro ⟨-, -, H⟩
  iexact H

/-- Device `c` owes `O`, whatever it has waited for. -/
def Owes (c : Dev nD) (O : Debt) : sProp 𝕄 := iprop(∃ W, owes (c : Thread nD τ) O W)

/-- Device `c` has waited for `R` rounds of its semaphore. -/
def Pos (c : Dev nD) (k : Kd) (R : ℕ) : sProp 𝕄 := iprop(atPos ER (cell c k) R ∅ 0 ∗ reached ER (cell c k) R)

/-- The one right to signal a round of a semaphore. -/
def Tok (c : Dev nD) (k : Kd) (r : ℕ) : sProp 𝕄 := dutyTok ER (cell c k) r false

abbrev WP (c : Dev nD) (p : P F) (Q : PUnit → sProp 𝕄) : sProp 𝕄 :=
  wp frame (wpE (defs₀ (F := F)) 𝒱₀ (c : Thread nD τ) none) Set.univ p Q

variable (c : Dev nD) (p : P F) (Q : PUnit → sProp (MT nD τ sig ℕ (Elt F) ℕ UU ℕ))

/-! ## Waits -/

/-- A wait for one round of a semaphore. -/
theorem wp_wait_round (w : TpuEff nD τ sig (Elt F) Λ₀ .tc PUnit) (k : Kd) (R i u u' : ℕ) (O : Debt)
    (hw : ∀ K' : PUnit → sProp 𝕄, wpE (defs₀ (F := F)) 𝒱₀ (c : Thread nD τ) none Set.univ w K' = waitSpec (c : Thread nD τ) Set.univ (sm k) u' K')
    (hu : u' = u) (hd : dutiesK k R = {false}) (ha : amountK k R = u) (hi : i < 40) (hO : Above i O) :
    iprop(ctx m K ∗ cred (tallyAt (cell c k) i u) ∗ Owes c O ∗ Pos c k R)
      ⊢ iprop(((Owes c O ∗ Pos c k (R + 1) ∗ payK m c k R false) -∗ WP c p Q) -∗ WP c (.op w fun _ => p) Q) := by
  subst hu
  unfold Owes Pos
  iintro ⟨#Hctx, Hc, ⟨%W, HO⟩, ⟨Hat, -⟩⟩ Hk
  iapply (Rounds.wp_wait_rest_token 𝒱₀ ER (sched m) (c : Thread nD τ) none (κ := K (c, k)) hw (Set.mem_univ _) i
      (O := O) (W := W) (R := R) (m := 0) (T := ∅)
      (by rw [Nat.zero_add]; exact ((sched_expect_one m c k R hd).trans ha).symm)) $$ [Hc HO Hat]
  · isplitr; · iapply (ctx_inv m K c k); iexact Hctx
    isplitl [Hc]; · iexact Hc
    isplitl [HO]; · iexact HO
    isplitr; · iapply (mayWait c (sm k) i hi hO); iapply (ctx_lev m K); iexact Hctx
    iexact Hat
  iintro ⟨HO, Hat, Hr, Hpay⟩
  ihave Hp := (Entails.of_eq (sched_rest_one m c k R hd)) $$ Hpay
  iapply Hk
  isplitl [HO]; · iexists _; iexact HO
  isplitl [Hat Hr]; · isplitl [Hat] <;> iassumption
  iexact Hp

theorem wp_barWait (O : Debt) (hO : Above 1 O) :
    iprop(ctx m K ∗ cred (tallyAt (cell c .bar) 1 2) ∗ Owes c O ∗ Pos c .bar 0)
      ⊢ iprop(((Owes c O ∗ Pos c .bar 1 ∗ perm false c 0 ∗ perm true c 0) -∗ WP c p Q) -∗ WP c (barWait p) Q) := by
  unfold Owes Pos
  iintro ⟨#Hctx, Hc, ⟨%W, HO⟩, ⟨Hat, -⟩⟩ Hk
  iapply (Rounds.wp_wait_rest_token 𝒱₀ ER (sched m) (c : Thread nD τ) none (κ := K (c, .bar))
      (wpE_semWait_eq 𝒱₀ (c : Thread nD τ) none Set.univ) (Set.mem_univ _) 1
      (O := O) (W := W) (R := 0) (m := 0) (T := ∅)
      (by rw [Nat.zero_add]; exact Eq.trans (by decide) (sched_expect_bar m c).symm)) $$ [Hc HO Hat]
  · isplitr; · iapply (ctx_inv m K c .bar); iexact Hctx
    isplitl [Hc]; · iexact Hc
    isplitl [HO]; · iexact HO
    isplitr; · iapply (mayWait c (sm .bar) 1 (by decide) hO); iapply (ctx_lev m K); iexact Hctx
    iexact Hat
  iintro ⟨HO, Hat, Hr, Hpay⟩
  ihave Hp := (show bigSep ((sched m).duties ((c : Thread nD τ), .reg barSem) 0 \ ∅)
      (fun d => (sched m).payload ((c : Thread nD τ), .reg barSem) 0 d) ⊢ iprop(perm false c 0 ∗ perm true c 0) from
    Entails.of_eq (sched_rest_bar m c)) $$ Hpay
  iapply Hk
  isplitl [HO]; · iexists _; iexact HO
  isplitl [Hat Hr]
  · isplitl [Hat]; · iexact Hat
    iexact Hr
  iexact Hp

theorem wp_creditWait (d : Bool) (i : ℕ) (hi : i < 13) :
    iprop(ctx m K ∗ cred (tallyAt (cell c (.credit d)) (2 * i + 3) 1) ∗ Owes c (owed c (i + 1)) ∗ Pos c (.credit d) i)
      ⊢ iprop(((Owes c (owed c (i + 1)) ∗ Pos c (.credit d) (i + 1) ∗ perm d c (i + 1)) -∗ WP c p Q)
          -∗ WP c (creditWait d p) Q) :=
  wp_wait_round m K c p Q _ (.credit d) i (2 * i + 3) 1 (1#32).toInt.toNat _ (wpE_semWait_eq 𝒱₀ (c : Thread nD τ) none Set.univ)
    (by decide) (duties_credit d i hi) rfl (by omega) (above_owed c (i + 1) _ (by omega))

theorem wp_sentSub (d : Bool) (j : ℕ) (k : Fin 2) (hj : j < 7) :
    iprop(ctx m K ∗ cred (tallyAt (cell c (.send d (slotOf j) k)) (2 * j + 2) (stepUnits j))
        ∗ Owes c (owed c (j + 1) + creditsDebt c j) ∗ Pos c (.send d (slotOf j) k) (j / 2))
      ⊢ iprop(((Owes c (owed c (j + 1) + creditsDebt c j) ∗ Pos c (.send d (slotOf j) k) (j / 2 + 1)
            ∗ sentPay m d c j k) -∗ WP c p Q) -∗ WP c (sentSub d j k p) Q) := by
  rw [← pay_send m c d j k false]
  exact wp_wait_round m K c p Q _ (.send d (slotOf j) k) (j / 2) (2 * j + 2) (stepUnits j) _ _
    (wpE_waitDma2_eq 𝒱₀ (c : Thread nD τ) none Set.univ)
    ((sub_credit d _ k).trans (if_pos hj).symm) (duties_send d j k (by unfold steps; split <;> omega)) (amount_send d j k) (by omega)
    (above_rest c j _ (by omega))

theorem wp_gotSub (d : Bool) (j : ℕ) (k : Fin 2) (hj : j < 7) :
    iprop(ctx m K ∗ cred (tallyAt (cell c (.recv d (slotOf (j + 1)) k)) (2 * j + 2) (stepUnits j))
        ∗ Owes c (owed c (j + 1) + creditsDebt c j) ∗ Pos c (.recv d (slotOf (j + 1)) k) (j / 2))
      ⊢ iprop(((Owes c (owed c (j + 1) + creditsDebt c j) ∗ Pos c (.recv d (slotOf (j + 1)) k) (j / 2 + 1)
            ∗ gotPay m d c j k) -∗ WP c p Q) -∗ WP c (gotSub d j k p) Q) := by
  rw [← pay_recv m c d j k false]
  exact wp_wait_round m K c p Q _ (.recv d (slotOf (j + 1)) k) (j / 2) (2 * j + 2) (stepUnits j) _ _
    (wpE_waitDma2_eq 𝒱₀ (c : Thread nD τ) none Set.univ)
    ((sub_credit d _ k).trans (if_pos hj).symm) (duties_recv d j k (by unfold steps; split <;> omega)) (amount_recv d j k) (by omega)
    (above_rest c j _ (by omega))

theorem wp_sentSlot (d : Bool) (j : ℕ) (hj : 7 ≤ j) (hj' : j < 14) :
    iprop(ctx m K ∗ cred (tallyAt (cell c (.send d (slotOf j) 0)) (2 * j + 2) (stepUnits j))
        ∗ Owes c (owed c (j + 1) + creditsDebt c j) ∗ Pos c (.send d (slotOf j) 0) (j / 2))
      ⊢ iprop(((Owes c (owed c (j + 1) + creditsDebt c j) ∗ Pos c (.send d (slotOf j) 0) (j / 2 + 1)
            ∗ sentPay m d c j 0) -∗ WP c p Q) -∗ WP c (sentSlot d j p) Q) := by
  rw [← pay_send m c d j 0 false]
  exact wp_wait_round m K c p Q _ (.send d (slotOf j) 0) (j / 2) (2 * j + 2) (stepUnits j) _ _
    (wpE_waitDma2_eq 𝒱₀ (c : Thread nD τ) none Set.univ)
    ((slot_credit d _).trans (if_neg (by omega)).symm) (duties_send d j 0 hj') (amount_send d j 0) (by omega)
    (above_rest c j _ (by omega))

theorem wp_gotSlot (d : Bool) (j : ℕ) (hj : 7 ≤ j) (hj' : j < 14) :
    iprop(ctx m K ∗ cred (tallyAt (cell c (.recv d (slotOf (j + 1)) 0)) (2 * j + 2) (stepUnits j))
        ∗ Owes c (owed c (j + 1) + creditsDebt c j) ∗ Pos c (.recv d (slotOf (j + 1)) 0) (j / 2))
      ⊢ iprop(((Owes c (owed c (j + 1) + creditsDebt c j) ∗ Pos c (.recv d (slotOf (j + 1)) 0) (j / 2 + 1)
            ∗ gotPay m d c j 0) -∗ WP c p Q) -∗ WP c (gotSlot d j p) Q) := by
  rw [← pay_recv m c d j 0 false]
  exact wp_wait_round m K c p Q _ (.recv d (slotOf (j + 1)) 0) (j / 2) (2 * j + 2) (stepUnits j) _ _
    (wpE_waitDma2_eq 𝒱₀ (c : Thread nD τ) none Set.univ)
    ((slot_credit d _).trans (if_neg (by omega)).symm) (duties_recv d j 0 hj') (amount_recv d j 0) (by omega)
    (above_rest c j _ (by omega))

theorem wp_copied (d : Bool) (T : ℕ) (hT : T < 8) (O : Debt) (hO : Above (2 * T + 16) O) :
    iprop(ctx m K ∗ cred (tallyAt (cell c (.copy d (slotOf (T + 1)))) (2 * T + 16) NB) ∗ Owes c O
        ∗ Pos c (.copy d (slotOf (T + 1))) (T / 2))
      ⊢ iprop(((Owes c O ∗ Pos c (.copy d (slotOf (T + 1))) (T / 2 + 1) ∗ copyPay m d c T) -∗ WP c p Q)
          -∗ WP c (copied d c T p) Q) := by
  rw [← pay_copy m c d T false]
  exact wp_wait_round m K c p Q _ (.copy d (slotOf (T + 1))) (T / 2) (2 * T + 16) NB _ _
    (wpE_waitDma2_eq 𝒱₀ (c : Thread nD τ) none Set.univ)
    (outBlk_credit d c _) (duties_copy d T hT) rfl (by omega) hO

/-! ## Signals -/

theorem wp_barSignal (d : Bool) (O : Debt) :
    iprop(ctx m K ∗ Owes c (O + tallyAt (cell (tgt d c) .bar) 1 1) ∗ dutyTok ER (cell (tgt d c) .bar) 0 (!d)
        ∗ perm (!d) (tgt d c) 0)
      ⊢ iprop((Owes c O -∗ WP c p Q) -∗ WP c (barSignal d c p) Q) := by
  unfold Owes
  iintro ⟨#Hctx, ⟨%W, HO⟩, Htok, Hpay⟩ Hk
  iapply (Rounds.wp_signal 𝒱₀ ER (sched m) (c : Thread nD τ) none (dst := (tgt d c : Thread nD τ)) (κ := K (tgt d c, .bar))
      (r := 0) (d := !d) (by show (!d) ∈ (sched m).duties (cell (tgt d c) .bar) 0; rw [sched_duties]; exact Finset.mem_univ _)
      ((sched_amount m (tgt d c) .bar 0 (!d)).trans (by decide)) 1 O rfl) $$ [HO Htok Hpay]
  · isplitr; · iapply (ctx_inv m K (tgt d c) .bar); iexact Hctx
    isplitl [HO]; · iexact HO
    isplitl [Htok]; · iexact Htok
    isplitl [Hpay]
    · iapply (show perm (!d) (tgt d c) 0 ⊢ (sched m).payload ((tgt d c : Thread nD τ), .reg barSem) 0 (!d) from
        Entails.of_eq (sched_payload m (tgt d c) .bar 0 (!d)).symm)
      iexact Hpay
    iapply (ctx_reached m K (tgt d c) .bar); iexact Hctx
  iintro HO
  iapply Hk
  iexists W; iexact HO

theorem wp_creditSignal (d : Bool) (i : ℕ) (hi : i < 13) (O : Debt) :
    iprop(ctx m K ∗ Owes c (O + creditDebt d c i) ∗ Tok (src d c) (.credit d) i ∗ perm d (src d c) (i + 1)
        ∗ reached ER (cell (src d c) (.credit d)) i)
      ⊢ iprop((Owes c O -∗ WP c p Q) -∗ WP c (creditSignal d c p) Q) := by
  unfold Owes Tok creditDebt
  iintro ⟨#Hctx, ⟨%W, HO⟩, Htok, Hpay, Hr⟩ Hk
  iapply (Rounds.wp_signal 𝒱₀ ER (sched m) (c : Thread nD τ) none (dst := (src d c : Thread nD τ)) (κ := K (src d c, .credit d))
      (r := i) (d := false) (by show false ∈ (sched m).duties (cell (src d c) (.credit d)) i; rw [sched_duties, duties_credit d i hi]; exact Finset.mem_singleton_self _)
      ((sched_amount m (src d c) (.credit d) i false).trans (show 1 = (1#32).toNat by decide)) (2 * i + 3) O rfl) $$ [HO Htok Hpay Hr]
  · isplitr; · iapply (ctx_inv m K (src d c) (.credit d)); iexact Hctx
    isplitl [HO]; · iexact HO
    isplitl [Htok]; · iexact Htok
    isplitl [Hpay]
    · iapply (show perm d (src d c) (i + 1) ⊢ (sched m).payload ((src d c : Thread nD τ), .reg (creditSem d)) i false from
        Entails.of_eq (sched_payload m (src d c) (.credit d) i false).symm)
      iexact Hpay
    iexact Hr
  iintro HO
  iapply Hk
  iexists W; iexact HO

end Cert.KernelIdeal.Ring
-- ==== Proof.Move.lean ====
module

public import proofs.«01_k».proof.Proof.Ops

@[expose] public section

noncomputable section

/-! # Moving data

The rules of the transfers, the copies, the loads and the stores. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Squeezed views -/

section Squeeze

variable {sp : Space} {s : Shape} {e : EltTy}

/-- What a squeezed memory reference reads when the whole one reads `X`. -/
def flatten {s s' : Shape} {α : Type} (h : s.Squeezes s') (X : s.Idx → α) (i : s'.Idx) : α :=
  X (Shape.reshapeEquiv h.numel_eq i)

/-- The squeezed memory reference holds the same elements. -/
theorem owns_flatten (c : Dev nD) (M : Memref sig .tc sp s e) {s' : Shape} (h : s.Squeezes s') (q : PosShare TreeShare)
    (X : s.Idx → Elt F e) :
    (owns (c : Thread nD τ) (M.squeeze s' h) q (flatten h X) : sProp 𝕄) = owns (c : Thread nD τ) M q X := by
  have hset : (M.squeeze s' h).view.set = M.view.set := View.set_reshape _ _
  have hread : ∀ f : M.view.ty.Contents (Elt F),
      (M.squeeze s' h).view.read (Elt F) f = flatten h X ↔ M.view.read (Elt F) f = X := by
    intro f
    constructor
    · intro hf
      funext i
      have h1 := congrFun hf ((Shape.reshapeEquiv h.numel_eq).symm i)
      unfold flatten at h1
      rw [Equiv.apply_symm_apply] at h1
      refine Eq.trans ?_ h1
      show M.view.read (Elt F) f i = M.view.read (Elt F) f (Shape.reshapeEquiv h.numel_eq ((Shape.reshapeEquiv h.numel_eq).symm i))
      rw [Equiv.apply_symm_apply]
    · intro hf
      subst hf; rfl
  have h1 : (owns (c : Thread nD τ) (M.squeeze s' h) q (flatten h X) : sProp 𝕄) ⊢ owns (c : Thread nD τ) M q X := by
    unfold owns
    iintro ⟨%f, %hf, H⟩
    iexists f
    isplitr; · ipureintro; exact (hread f).mp hf
    rw [← hset]; iexact H
  have h2 : (owns (c : Thread nD τ) M q X : sProp 𝕄) ⊢ owns (c : Thread nD τ) (M.squeeze s' h) q (flatten h X) := by
    unfold owns
    iintro ⟨%f, %hf, H⟩
    iexists f
    isplitr; · ipureintro; exact (hread f).mpr hf
    rw [hset]; iexact H
  exact Entails.antisymm h1 h2

/-- A memory reference just written holds what was written. -/
theorem owns_written (c : Dev nD) (M : Memref sig .tc sp s e) (f : M.view.ty.Contents (Elt F)) (X : s.Idx → Elt F e) :
    (M.view.loc (c : Thread nD τ) ↦[M.view.set]{fullShare} (M.view.write (Elt F) f X Finset.univ) : sProp 𝕄)
      ⊢ owns (c : Thread nD τ) M fullShare X := by
  unfold owns
  iintro H
  iexists M.view.write (Elt F) f X Finset.univ
  isplitr; · ipureintro; exact View.read_write_univ f X
  iexact H

theorem owns_of (c : Dev nD) (M : Memref sig .tc sp s e) (q : PosShare TreeShare) (f : M.view.ty.Contents (Elt F))
    (X : s.Idx → Elt F e) (h : M.view.read (Elt F) f = X) :
    (M.view.loc (c : Thread nD τ) ↦[M.view.set]{q} f : sProp 𝕄) ⊢ owns (c : Thread nD τ) M q X := by
  subst h; exact owns_intro _ _ _ _

end Squeeze

theorem owns_sub (c : Dev nD) (d : Bool) (p k : Fin 2) (q : PosShare TreeShare) (X : Vec F S1x128x8192 .bf16) :
    (owns (c : Thread nD τ) (half d p k) q X : sProp 𝕄)
      = owns (c : Thread nD τ) (sub d p k) q (flatten squeezes_S1x128x8192_S128x8192 X) :=
  (owns_flatten c (half d p k) squeezes_S1x128x8192_S128x8192 q X).symm

theorem owns_slot (c : Dev nD) (d : Bool) (p : Fin 2) (q : PosShare TreeShare) (X : Vec F S1x256x8192 .bf16) :
    (owns (c : Thread nD τ) (full d p) q X : sProp 𝕄) = owns (c : Thread nD τ) (slot d p) q (flat X) :=
  (owns_flatten c (full d p) squeezes_S1x256x8192_S256x8192 q X).symm

variable (m : (ℓ : Loc nD τ sig) → Buf (Elt F) ℓ) (K : Dev nD × Kd → ℕ)
variable (c : Dev nD) (p : P F) (Q : PUnit → sProp (MT nD τ sig ℕ (Elt F) ℕ UU ℕ))

/-! ## Transfers -/

theorem wp_sendSub (d : Bool) (j : ℕ) (k : Fin 2) (hj : j < 7) (O : Debt) :
    iprop(ctx m K ∗ Owes c (O + sendDebt d c j k)
        ∗ owns (c : Thread nD τ) (half d (slotOf j) k) fullShare (sumAt m d j c k)
        ∗ (∃ X, owns (tgt d c : Thread nD τ) (half d (slotOf (j + 1)) k) fullShare X)
        ∗ reached ER (cell (tgt d c) (.recv d (slotOf (j + 1)) k)) (j / 2)
        ∗ reached ER (cell c (.send d (slotOf j) k)) (j / 2) ∗ reached ER (cell c (.credit d)) j
        ∗ Tok c (.send d (slotOf j) k) (j / 2) ∗ Tok (tgt d c) (.recv d (slotOf (j + 1)) k) (j / 2))
      ⊢ iprop(((Owes c O ∗ cred (tallyAt (cell c (.send d (slotOf j) k)) (2 * j + 2) (stepUnits j))) -∗ WP c p Q)
          -∗ WP c (sendSub d c j k p) Q) := by
  rw [owns_sub]
  simp only [owns_sub (tgt d c)]
  unfold Owes Tok sendDebt
  iintro ⟨#Hctx, ⟨%W, HO⟩, Hs, ⟨%X, Hd⟩, Hr2, Hr1, Hrc, Ht1, Ht2⟩ Hk
  unfold owns
  icases Hs with ⟨%fs, %hfs, Hs⟩
  icases Hd with ⟨%fd, %hfd, Hd⟩
  have hsend : j < steps k := by unfold steps; split <;> omega
  iapply (Rounds.wp_send_pointsTo_with 𝒱₀ ER (sched m) (c : Thread nD τ) none (c' := (tgt d c : Thread nD τ))
      (sS := .dma (sendSem d (slotOf j) k)) (sem := .dma (recvSem d (slotOf (j + 1)) k))
      (src := sub d (slotOf j) k) (dst := sub d (slotOf (j + 1)) k) (q := fullShare) (fs := fs) (fd := fd)
      (F := reached ER (cell c (.credit d)) j)
      (κ₁ := K (c, .send d (slotOf j) k)) (κ₂ := K (tgt d c, .recv d (slotOf (j + 1)) k))
      (r₁ := j / 2) (r₂ := j / 2) (d₁ := false) (d₂ := false)
      (by show false ∈ (sched m).duties (cell c (.send d (slotOf j) k)) (j / 2)
          rw [sched_duties, duties_send d j k hsend]; exact Finset.mem_singleton_self _)
      (by show false ∈ (sched m).duties (cell (tgt d c) (.recv d (slotOf (j + 1)) k)) (j / 2)
          rw [sched_duties, duties_recv d j k hsend]; exact Finset.mem_singleton_self _)
      (2 * j + 2) (2 * j + 2) (stepUnits j) ((sub_credit d _ k).trans (if_pos hj).symm)
      ((sched_amount m c (.send d (slotOf j) k) (j / 2) false).trans (amount_send d j k))
      ((sched_amount m (tgt d c) (.recv d (slotOf (j + 1)) k) (j / 2) false).trans (amount_recv d j k))
      O rfl (W := W)
      (by
        show _ ⊢ (sched m).payload (cell c (.send d (slotOf j) k)) (j / 2) false
        rw [sched_payload, pay_send]; unfold sentPay; rw [if_pos hj, owns_sub]
        exact owns_of c _ _ fs _ hfs)
      (by
        show _ ⊢ (sched m).payload (cell (tgt d c) (.recv d (slotOf (j + 1)) k)) (j / 2) false
        rw [sched_payload, pay_recv]; unfold gotPay; rw [if_pos hj, src_tgt, owns_sub]
        iintro ⟨H, Hr⟩
        isplitl [H]
        · iapply (owns_written (tgt d c) (sub d (slotOf (j + 1)) k) fd (flatten squeezes_S1x128x8192_S128x8192 (sumAt m d j c k)))
          rw [← hfs]; iexact H
        iexact Hr)) $$ [HO Hs Hd Hr2 Hr1 Hrc Ht1 Ht2]
  · isplitr; · iapply (ctx_inv m K c (.send d (slotOf j) k)); iexact Hctx
    isplitr; · iapply (ctx_inv m K (tgt d c) (.recv d (slotOf (j + 1)) k)); iexact Hctx
    isplitl [Hs]; · iexact Hs
    isplitl [Hd Hrc]
    · isplitl [Hd]; · iexact Hd
      iexact Hrc
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]; · iexists W; iexact HO
  iexact Hc

theorem wp_sendSlot (d : Bool) (j : ℕ) (hj : 7 ≤ j) (hj' : j < 14) (O : Debt) :
    iprop(ctx m K ∗ Owes c (O + sendDebt d c j 0)
        ∗ owns (c : Thread nD τ) (full d (slotOf j)) fullShare.left (blkAt m d (j - 7) c)
        ∗ (∃ X, owns (tgt d c : Thread nD τ) (full d (slotOf (j + 1))) fullShare X)
        ∗ reached ER (cell (tgt d c) (.recv d (slotOf (j + 1)) 0)) (j / 2)
        ∗ reached ER (cell c (.send d (slotOf j) 0)) (j / 2) ∗ reached ER (cell c (.credit d)) j
        ∗ Tok c (.send d (slotOf j) 0) (j / 2) ∗ Tok (tgt d c) (.recv d (slotOf (j + 1)) 0) (j / 2))
      ⊢ iprop(((Owes c O ∗ cred (tallyAt (cell c (.send d (slotOf j) 0)) (2 * j + 2) (stepUnits j))) -∗ WP c p Q)
          -∗ WP c (sendSlot d c j p) Q) := by
  rw [owns_slot]
  simp only [owns_slot (tgt d c)]
  unfold Owes Tok sendDebt
  iintro ⟨#Hctx, ⟨%W, HO⟩, Hs, ⟨%X, Hd⟩, Hr2, Hr1, Hrc, Ht1, Ht2⟩ Hk
  unfold owns
  icases Hs with ⟨%fs, %hfs, Hs⟩
  icases Hd with ⟨%fd, %hfd, Hd⟩
  have hn : ¬ j < 7 := by omega
  iapply (Rounds.wp_send_pointsTo_with 𝒱₀ ER (sched m) (c : Thread nD τ) none (c' := (tgt d c : Thread nD τ))
      (sS := .dma (sendSem d (slotOf j) 0)) (sem := .dma (recvSem d (slotOf (j + 1)) 0))
      (src := slot d (slotOf j)) (dst := slot d (slotOf (j + 1))) (q := fullShare.left) (fs := fs) (fd := fd)
      (F := reached ER (cell c (.credit d)) j)
      (κ₁ := K (c, .send d (slotOf j) 0)) (κ₂ := K (tgt d c, .recv d (slotOf (j + 1)) 0))
      (r₁ := j / 2) (r₂ := j / 2) (d₁ := false) (d₂ := false)
      (by show false ∈ (sched m).duties (cell c (.send d (slotOf j) 0)) (j / 2)
          rw [sched_duties, duties_send d j 0 hj']; exact Finset.mem_singleton_self _)
      (by show false ∈ (sched m).duties (cell (tgt d c) (.recv d (slotOf (j + 1)) 0)) (j / 2)
          rw [sched_duties, duties_recv d j 0 hj']; exact Finset.mem_singleton_self _)
      (2 * j + 2) (2 * j + 2) (stepUnits j) ((slot_credit d _).trans (if_neg hn).symm)
      ((sched_amount m c (.send d (slotOf j) 0) (j / 2) false).trans (amount_send d j 0))
      ((sched_amount m (tgt d c) (.recv d (slotOf (j + 1)) 0) (j / 2) false).trans (amount_recv d j 0))
      O rfl (W := W)
      (by
        show _ ⊢ (sched m).payload (cell c (.send d (slotOf j) 0)) (j / 2) false
        rw [sched_payload, pay_send]; unfold sentPay; rw [if_neg hn, owns_slot]
        exact owns_of c _ _ fs _ hfs)
      (by
        show _ ⊢ (sched m).payload (cell (tgt d c) (.recv d (slotOf (j + 1)) 0)) (j / 2) false
        rw [sched_payload, pay_recv]; unfold gotPay; rw [if_neg hn, src_tgt, owns_slot]
        iintro ⟨H, Hr⟩
        isplitl [H]
        · have hv : blkAt m d (j - 7 + 1) (tgt d c) = blkAt m d (j - 7) c := by unfold blkAt; rw [back_succ, src_tgt]
          rw [hv]
          iapply (owns_written (tgt d c) (slot d (slotOf (j + 1))) fd (flat (blkAt m d (j - 7) c)))
          rw [← hfs]; iexact H
        iexact Hr)) $$ [HO Hs Hd Hr2 Hr1 Hrc Ht1 Ht2]
  · isplitr; · iapply (ctx_inv m K c (.send d (slotOf j) 0)); iexact Hctx
    isplitr; · iapply (ctx_inv m K (tgt d c) (.recv d (slotOf (j + 1)) 0)); iexact Hctx
    isplitl [Hs]; · iexact Hs
    isplitl [Hd Hrc]
    · isplitl [Hd]; · iexact Hd
      iexact Hrc
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]; · iexists W; iexact HO
  iexact Hc

theorem wp_copyOut (d : Bool) (T : ℕ) (hT : T < 8) :
    iprop(ctx m K ∗ owns (c : Thread nD τ) (full d (slotOf (T + 1))) fullShare.right (blkAt m d T c)
        ∗ (∃ X, owns (c : Thread nD τ) (outBlk d c (blkNo T)) fullShare X)
        ∗ reached ER (cell c (.copy d (slotOf (T + 1)))) (T / 2) ∗ Tok c (.copy d (slotOf (T + 1))) (T / 2))
      ⊢ iprop((cred (tallyAt (cell c (.copy d (slotOf (T + 1)))) (2 * T + 16) NB) -∗ WP c p Q)
          -∗ WP c (copyOut d c T p) Q) := by
  rw [owns_slot]
  unfold Tok owns
  iintro ⟨#Hctx, ⟨%fs, %hfs, Hs⟩, ⟨%X, %fd, %hfd, Hd⟩, Hr, Ht⟩ Hk
  iapply (Rounds.wp_copy_pointsTo 𝒱₀ ER (sched m) (c : Thread nD τ) none
      (sem := .dma (copySem d (slotOf (T + 1))))
      (src := slot d (slotOf (T + 1))) (dst := outBlk d c (blkNo T)) (q := fullShare.right) (fs := fs) (fd := fd)
      (κ := K (c, .copy d (slotOf (T + 1)))) (r := T / 2) (d := false)
      (by show false ∈ (sched m).duties (cell c (.copy d (slotOf (T + 1)))) (T / 2)
          rw [sched_duties, duties_copy d T hT]; exact Finset.mem_singleton_self _)
      (2 * T + 16) NB (outBlk_credit d c _) (sched_amount m c (.copy d (slotOf (T + 1))) (T / 2) false)
      (by
        show _ ⊢ (sched m).payload (cell c (.copy d (slotOf (T + 1)))) (T / 2) false
        rw [sched_payload, pay_copy]; unfold copyPay; rw [owns_slot]
        iintro ⟨Hd, Hs⟩
        isplitl [Hs]; · iapply (owns_of c (slot d (slotOf (T + 1))) _ fs _ hfs); iexact Hs
        iapply (owns_written c (outBlk d c (blkNo T)) fd (flat (blkAt m d T c)))
        rw [← hfs]; iexact Hd)) $$ [Hs Hd Hr Ht]
  · isplitr; · iapply (ctx_inv m K c (.copy d (slotOf (T + 1)))); iexact Hctx
    isplitl [Hs]; · iexact Hs
    isplitl [Hd]; · iexact Hd
    isplitl [Ht]; · iexact Ht
    iexact Hr
  iintro Hc
  iapply Hk; iexact Hc

/-! ## Loads and stores -/

section Access

variable {cs : CoreSpace} {s : Shape} {e : EltTy} (M : Memref sig .tc cs s e)

theorem wp_loadRect (r : Rect s) (hr : ∀ a, r.stride a = 1) (hl : M.view.LoadsAt r.toLoadRect) (q : PosShare TreeShare)
    (X : r.shape.Idx → Elt F e) (g : (r.shape.Idx → Elt F e) → P F) :
    owns (c : Thread nD τ) (M.slice r hr) q X
      ⊢ iprop((owns (c : Thread nD τ) (M.slice r hr) q X -∗ WP c (g X) Q) -∗ WP c (.op (.load M r.toLoadRect hl) g) Q) := by
  unfold owns
  iintro ⟨%f, %hf, H⟩ Hk
  subst hf
  ihave H1 := (show ((M.slice r hr).view.loc (c : Thread nD τ) ↦[(M.slice r hr).view.set]{q} f : sProp 𝕄)
    ⊢ ((M.access r).loc (c : Thread nD τ) ↦[(M.access r).set]{q} f) from .rfl) $$ H
  iapply (wp_load_rect 𝒱₀ (c : Thread nD τ) none Set.univ (m := M) (r := r) (Finset.Subset.refl _)) $$ H1
  iintro H
  iapply Hk
  iexists f
  isplitr; · ipureintro; rfl
  iexact H

theorem wp_storeRect (r : Rect s) (hr : ∀ a, r.stride a = 1) (X w : r.shape.Idx → Elt F e)
    (hx : (M.access r).Stores Finset.univ) (hm : Finset.univ = Finset.univ ∨ ∀ a, r.stride a = 1) :
    owns (c : Thread nD τ) (M.slice r hr) fullShare X
      ⊢ iprop((owns (c : Thread nD τ) (M.slice r hr) fullShare w -∗ WP c p Q)
        -∗ WP c (.op (.store M r w Finset.univ hx hm) fun _ => p) Q) := by
  unfold owns
  iintro ⟨%f, %hf, H⟩ Hk
  ihave H1 := (show ((M.slice r hr).view.loc (c : Thread nD τ) ↦[(M.slice r hr).view.set]{fullShare} f : sProp 𝕄)
    ⊢ ((M.access r).loc (c : Thread nD τ) ↦[(M.access r).set]{fullShare} f) from .rfl) $$ H
  iapply (wp_store 𝒱₀ (c : Thread nD τ) none Set.univ (m := M) (r := r) (w := w) (Mk := Finset.univ)
    (S := (M.access r).set) (Finset.Subset.refl _)) $$ H1
  iintro H
  iapply Hk
  iexists (M.access r).write (Elt F) f w Finset.univ
  isplitr; · ipureintro; exact View.read_write_univ f w
  iexact H

/-- A load of a part of a memory reference held whole. -/
theorem wp_loadPart (r : LoadRect s) (hl : M.view.LoadsAt r) (X : M.view.ty.Contents (Elt F))
    (g : (r.shape.Idx → Elt F e) → P F) :
    owns (c : Thread nD τ) M fullShare (M.view.read (Elt F) X)
      ⊢ iprop((owns (c : Thread nD τ) M fullShare (M.view.read (Elt F) X) -∗ WP c (g (M.view.readAt (Elt F) r X)) Q)
        -∗ WP c (.op (.load M r hl) g) Q) := by
  unfold owns
  iintro ⟨%f, %hf, H⟩ Hk
  have he : M.view.readAt (Elt F) r X = M.view.readAt (Elt F) r f := funext fun i => (congrFun hf (r.idx i)).symm
  rw [he]
  iapply (wp_load 𝒱₀ (c : Thread nD τ) none Set.univ (m := M) (View.setOn_subset_set _ _)) $$ H
  iintro H
  iapply Hk
  iexists f
  isplitr; · ipureintro; exact hf
  iexact H

end Access

theorem wp_loadSub (d : Bool) (j : ℕ) (k : Fin 2) (q : PosShare TreeShare) (X : Vec F S1x128x8192 .bf16)
    (f : Vec F S1x128x8192 .bf16 → P F) :
    owns (c : Thread nD τ) (half d (slotOf j) k) q X
      ⊢ iprop((owns (c : Thread nD τ) (half d (slotOf j) k) q X -∗ WP c (f X) Q) -∗ WP c (loadSub d j k f) Q) :=
  wp_loadRect c Q (comm d) (subRect (slotOf j) k) (fun _ => rfl) _ q X f

theorem wp_storeSub (d : Bool) (j : ℕ) (k : Fin 2) (X w : Vec F S1x128x8192 .bf16) :
    owns (c : Thread nD τ) (half d (slotOf j) k) fullShare X
      ⊢ iprop((owns (c : Thread nD τ) (half d (slotOf j) k) fullShare w -∗ WP c p Q) -∗ WP c (storeSub d j k w p) Q) :=
  wp_storeRect c p Q (comm d) (subRect (slotOf j) k) (fun _ => rfl) X w _ _

theorem wp_loadSlot (d : Bool) (j : ℕ) (q : PosShare TreeShare) (X : Vec F S1x256x8192 .bf16)
    (f : Vec F S1x256x8192 .bf16 → P F) :
    owns (c : Thread nD τ) (full d (slotOf j)) q X
      ⊢ iprop((owns (c : Thread nD τ) (full d (slotOf j)) q X -∗ WP c (f X) Q) -∗ WP c (loadSlot d j f) Q) :=
  wp_loadRect c Q (comm d) (slotRect (slotOf j)) (fun _ => rfl) _ q X f

theorem wp_storeSlot (d : Bool) (j : ℕ) (X w : Vec F S1x256x8192 .bf16) :
    owns (c : Thread nD τ) (full d (slotOf j)) fullShare X
      ⊢ iprop((owns (c : Thread nD τ) (full d (slotOf j)) fullShare w -∗ WP c p Q) -∗ WP c (storeSlot d j w p) Q) :=
  wp_storeRect c p Q (comm d) (slotRect (slotOf j)) (fun _ => rfl) X w _ _

/-- The staged operands. -/
def ins : sProp 𝕄 :=
  iprop(owns (c : Thread nD τ) xIn fullShare (xIn.view.read (Elt F) (xstg m c))
    ∗ owns (c : Thread nD τ) wIn fullShare (wIn.view.read (Elt F) (wstg m c))
    ∗ owns (c : Thread nD τ) sxIn fullShare (sxIn.view.read (Elt F) (sxstg m c))
    ∗ owns (c : Thread nD τ) swIn fullShare (swIn.view.read (Elt F) (swstg m c)))

theorem wp_loadX (d : Bool) (j : ℕ) (k : Fin 2) (f : Vec F S128x512 .fp8e4m3 → P F) :
    ins m c ⊢ iprop((ins m c -∗ WP c (f (xRows m d c j k)) Q) -∗ WP c (loadX d c j k f) Q) := by
  unfold ins loadX xRows
  iintro ⟨Hx, Hw, Hr⟩ Hk
  iapply (wp_loadPart c Q xIn _ _ (xstg m c) f) $$ Hx
  iintro Hx
  iapply Hk
  isplitl [Hx]; · iexact Hx
  isplitl [Hw]; · iexact Hw
  iexact Hr

theorem wp_loadW (f : Vec F S512x8192 .fp8e5m2 → P F) :
    ins m c ⊢ iprop((ins m c -∗ WP c (f (wAll m c)) Q) -∗ WP c (loadW f) Q) := by
  unfold ins loadW wAll
  iintro ⟨Hx, Hw, Hr⟩ Hk
  iapply (wp_loadPart c Q wIn _ _ (wstg m c) f) $$ Hw
  iintro Hw
  iapply Hk
  isplitl [Hx]; · iexact Hx
  isplitl [Hw]; · iexact Hw
  iexact Hr

end Cert.KernelIdeal.Ring
-- ==== Proof.Parts.lean ====
module

public import proofs.«01_k».proof.Proof.Move

@[expose] public section

noncomputable section

/-! # Taking buffers apart

A slot is its two halves, a ring's buffer is its two slots, and the result is its sixteen blocks. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section Rects

variable {sh : Shape} {T : Type} [Fintype T] [DecidableEq T] (r : T → Rect sh) (no : sh.Idx → T)

theorem rects_disjoint (h : ∀ t j, no ((r t).emb j) = t) (t t' : T) (ht : t ≠ t') : Disjoint (r t).set (r t').set := by
  rw [Finset.disjoint_left]
  intro i hi hi'
  rw [← Rect.map_emb_univ, Finset.mem_map] at hi hi'
  obtain ⟨j, -, rfl⟩ := hi
  obtain ⟨j', -, hj'⟩ := hi'
  exact ht ((h t j).symm.trans ((congrArg no hj').symm.trans (h t' j')))

theorem rects_cover (h : ∀ i, ∃ j, (r (no i)).emb j = i) :
    (Finset.univ : Finset T).biUnion (fun t => (r t).set) = Finset.univ := by
  refine Finset.eq_univ_iff_forall.mpr fun i => Finset.mem_biUnion.mpr ⟨no i, Finset.mem_univ _, ?_⟩
  obtain ⟨j, hj⟩ := h i
  rw [← Rect.map_emb_univ, Finset.mem_map]
  exact ⟨j, Finset.mem_univ _, hj⟩

end Rects

/-- A slice of a slice. -/
theorem owns_slice_slice {sp : Space} {s : Shape} {e : EltTy} (c : Dev nD) (M : Memref sig .tc sp s e) (r₀ : Rect s)
    (h₀ : ∀ a, r₀.stride a = 1) (r₁ : Rect r₀.shape) (h₁ : ∀ a, r₁.stride a = 1) (r : Rect s) (h : ∀ a, r.stride a = 1)
    (φ : r₁.shape.Idx ≃ r.shape.Idx) (hφ : ∀ j, r₀.emb (r₁.emb j) = r.emb (φ j)) (q : PosShare TreeShare)
    (X : r.shape.Idx → Elt F e) :
    (owns (c : Thread nD τ) ((M.slice r₀ h₀).slice r₁ h₁) q (fun j => X (φ j)) : sProp 𝕄)
      = owns (c : Thread nD τ) (M.slice r h) q X := by
  have hset : ((M.slice r₀ h₀).slice r₁ h₁).view.set = (M.slice r h).view.set := by
    ext i
    constructor
    · intro hi
      obtain ⟨j, -, hj⟩ := Finset.mem_map.mp hi
      refine Finset.mem_map.mpr ⟨φ j, Finset.mem_univ _, Eq.trans ?_ hj⟩
      show M.view.emb (r.emb (φ j)) = M.view.emb (r₀.emb (r₁.emb j))
      rw [hφ]
    · intro hi
      obtain ⟨j, -, hj⟩ := Finset.mem_map.mp hi
      refine Finset.mem_map.mpr ⟨φ.symm j, Finset.mem_univ _, Eq.trans ?_ hj⟩
      show M.view.emb (r₀.emb (r₁.emb (φ.symm j))) = M.view.emb (r.emb j)
      rw [hφ, Equiv.apply_symm_apply]
  have hread : ∀ f : M.view.ty.Contents (Elt F), ((M.slice r₀ h₀).slice r₁ h₁).view.read (Elt F) f = (fun j => X (φ j))
      ↔ (M.slice r h).view.read (Elt F) f = X := by
    intro f
    have hv : ∀ j, ((M.slice r₀ h₀).slice r₁ h₁).view.read (Elt F) f j = (M.slice r h).view.read (Elt F) f (φ j) := by
      intro j
      show M.view.read (Elt F) f (r₀.emb (r₁.emb j)) = M.view.read (Elt F) f (r.emb (φ j))
      rw [hφ]
    constructor
    · intro hf
      funext i
      have := congrFun hf (φ.symm i)
      rw [hv] at this
      simpa using this
    · intro hf
      subst hf
      exact funext hv
  have h1 : (owns (c : Thread nD τ) ((M.slice r₀ h₀).slice r₁ h₁) q (fun j => X (φ j)) : sProp 𝕄)
      ⊢ owns (c : Thread nD τ) (M.slice r h) q X := by
    unfold owns
    iintro ⟨%f, %hf, H⟩
    iexists f
    isplitr; · ipureintro; exact (hread f).mp hf
    rw [← hset]; iexact H
  have h2 : (owns (c : Thread nD τ) (M.slice r h) q X : sProp 𝕄)
      ⊢ owns (c : Thread nD τ) ((M.slice r₀ h₀).slice r₁ h₁) q (fun j => X (φ j)) := by
    unfold owns
    iintro ⟨%f, %hf, H⟩
    iexists f
    isplitr; · ipureintro; exact (hread f).mpr hf
    rw [hset]; iexact H
  exact Entails.antisymm h1 h2

theorem bigSep_two (Φ : Fin 2 → sProp 𝕄) : bigSep Finset.univ Φ = iprop(Φ 0 ∗ Φ 1) := BI.bigSep_fin_two Φ

/-! ## The halves of a slot -/

theorem half_emb (p k : Fin 2) (j : S1x128x8192.Idx) : (slotRect p).emb ((halfRect k).emb j) = (subRect p k).emb j := by
  funext a
  refine Fin.ext ?_
  rw [Rect.emb_apply, Rect.emb_apply]
  show (slotRect p).off a + 1 * ((halfRect k).emb j a).val = (subRect p k).off a + 1 * (j a).val
  rw [halfRect_val, Nat.one_mul, Nat.one_mul, ← Nat.add_assoc]
  congr 1
  match a with
  | ⟨0, _⟩ => exact Nat.add_zero _
  | ⟨1, _⟩ => exact Nat.zero_add _
  | ⟨2, _⟩ => exact Nat.zero_add _

variable (c : Dev nD) (d : Bool)

theorem owns_half (p k : Fin 2) (q : PosShare TreeShare) (X : Vec F S1x128x8192 .bf16) :
    (owns (c : Thread nD τ) ((full d p).slice (halfRect k) (fun _ => rfl)) q X : sProp 𝕄)
      = owns (c : Thread nD τ) (half d p k) q X :=
  owns_slice_slice c (comm d) (slotRect p) (fun _ => rfl) (halfRect k) (fun _ => rfl) (subRect p k) (fun _ => rfl)
    (Equiv.refl _) (half_emb p k) q X

theorem halves_disjoint : ∀ t t' : Fin 2, t ≠ t' → Disjoint (halfRect t).set (halfRect t').set :=
  rects_disjoint halfRect halfNo halfNo_emb
theorem halves_cover : (Finset.univ : Finset (Fin 2)).biUnion (fun t => (halfRect t).set) = Finset.univ :=
  rects_cover halfRect halfNo fun i => ⟨inHalf i, emb_inHalf i⟩

/-- A slot is its two halves. -/
theorem slot_split (p : Fin 2) (q : PosShare TreeShare) (X : Vec F S1x256x8192 .bf16) :
    (owns (c : Thread nD τ) (full d p) q X : sProp 𝕄)
      ⊢ iprop(owns (c : Thread nD τ) (half d p 0) q (fun j => X ((halfRect 0).emb j))
        ∗ owns (c : Thread nD τ) (half d p 1) q (fun j => X ((halfRect 1).emb j))) := by
  refine (owns_rects (c : Thread nD τ) (full d p) q halfRect (fun _ _ => rfl) halves_disjoint halves_cover X).trans ?_
  rw [bigSep_two]
  exact BIClass.sep_mono (Entails.of_eq (owns_half c d p 0 q _)) (Entails.of_eq (owns_half c d p 1 q _))

theorem slot_join (p : Fin 2) (q : PosShare TreeShare) (A : Fin 2 → S1x128x8192.Idx → Elt F .bf16) :
    iprop(owns (c : Thread nD τ) (half d p 0) q (A 0) ∗ owns (c : Thread nD τ) (half d p 1) q (A 1))
      ⊢ (owns (c : Thread nD τ) (full d p) q (glue A) : sProp 𝕄) := by
  refine BIBase.Entails.trans ?_ (owns_of_rects (c : Thread nD τ) (full d p) q halfRect (fun _ _ => rfl) halves_disjoint
    halves_cover (glue A))
  rw [bigSep_two]
  have h (k : Fin 2) : (fun j => glue A ((halfRect k).emb j)) = A k := funext fun j => glue_emb A k j
  refine BIClass.sep_mono ?_ ?_
  · rw [h 0]; exact Entails.of_eq (owns_half c d p 0 q _).symm
  · rw [h 1]; exact Entails.of_eq (owns_half c d p 1 q _).symm

/-! ## The slots of a buffer -/

def slotNo (i : S2x256x8192.Idx) : Fin 2 := i 0
def inSlot (i : S2x256x8192.Idx) : S1x256x8192.Idx := fun
  | ⟨0, _⟩ => ⟨0, Nat.one_pos⟩
  | ⟨1, _⟩ => ⟨(i 1).val, (i 1).isLt⟩
  | ⟨2, _⟩ => ⟨(i 2).val, (i 2).isLt⟩

theorem slotRect_val (p : Fin 2) (j : S1x256x8192.Idx) (a : Fin 3) :
    ((slotRect p).emb j a).val = (![p.val, 0, 0] : Fin 3 → ℕ) a + (j a).val := by
  rw [Rect.emb_apply]; simp [Rect.unit]

theorem slotNo_emb (p : Fin 2) (j : S1x256x8192.Idx) : slotNo ((slotRect p).emb j) = p := by
  refine Fin.ext ?_
  have h0 : (j 0).val < 1 := (j 0).isLt
  show ((slotRect p).emb j 0).val = p.val
  rw [slotRect_val]
  show p.val + (j 0).val = p.val
  omega

theorem inSlot_emb (p : Fin 2) (j : S1x256x8192.Idx) : inSlot ((slotRect p).emb j) = j := by
  funext a
  refine Fin.ext ?_
  match a with
  | ⟨0, _⟩ => exact (Nat.lt_one_iff.mp (j 0).isLt).symm
  | ⟨1, _⟩ => exact (slotRect_val p j 1).trans (Nat.zero_add _)
  | ⟨2, _⟩ => exact (slotRect_val p j 2).trans (Nat.zero_add _)

theorem emb_inSlot (i : S2x256x8192.Idx) : (slotRect (slotNo i)).emb (inSlot i) = i := by
  funext a
  refine Fin.ext ?_
  rw [slotRect_val]
  match a with
  | ⟨0, _⟩ => exact Nat.add_zero _
  | ⟨1, _⟩ => exact Nat.zero_add _
  | ⟨2, _⟩ => exact Nat.zero_add _

theorem slots_disjoint : ∀ t t' : Fin 2, t ≠ t' → Disjoint (slotRect t).set (slotRect t').set :=
  rects_disjoint slotRect slotNo slotNo_emb
theorem slots_cover : (Finset.univ : Finset (Fin 2)).biUnion (fun t => (slotRect t).set) = Finset.univ :=
  rects_cover slotRect slotNo fun i => ⟨inSlot i, emb_inSlot i⟩

/-- Something is in slot `p`, or in half `k` of it. -/
def slotAny (p : Fin 2) : sProp 𝕄 := iprop(∃ X, owns (c : Thread nD τ) (full d p) fullShare X)
def halfAny (p k : Fin 2) : sProp 𝕄 := iprop(∃ X, owns (c : Thread nD τ) (half d p k) fullShare X)

theorem comm_split (X : S2x256x8192.Idx → Elt F .bf16) :
    (owns (c : Thread nD τ) (comm d) fullShare X : sProp 𝕄) ⊢ iprop(slotAny c d 0 ∗ slotAny c d 1) := by
  refine (owns_rects (c : Thread nD τ) (comm d) fullShare slotRect (fun _ _ => rfl) slots_disjoint slots_cover X).trans ?_
  rw [bigSep_two]
  unfold slotAny full
  iintro ⟨H0, H1⟩
  isplitl [H0]
  · iexists _; iexact H0
  · iexists _; iexact H1

theorem comm_join :
    iprop(slotAny c d 0 ∗ slotAny c d 1) ⊢ (iprop(∃ X, owns (c : Thread nD τ) (comm d) fullShare X) : sProp 𝕄) := by
  unfold slotAny full
  iintro ⟨⟨%X, H0⟩, ⟨%Y, H1⟩⟩
  iexists fun i => (if slotNo i = 0 then X else Y) (inSlot i)
  iapply (owns_of_rects (c : Thread nD τ) (comm d) fullShare slotRect (fun _ _ => rfl) slots_disjoint
    slots_cover fun i => (if slotNo i = 0 then X else Y) (inSlot i))
  rw [bigSep_two]
  have h (p : Fin 2) : (fun j => (fun i => (if slotNo i = 0 then X else Y) (inSlot i)) ((slotRect p).emb j))
      = if p = 0 then X else Y := by
    funext j
    show (if slotNo ((slotRect p).emb j) = 0 then X else Y) (inSlot ((slotRect p).emb j)) = _
    rw [slotNo_emb, inSlot_emb]
  rw [h 0, h 1]
  isplitl [H0]
  · iexact H0
  · iexact H1

theorem slotAny_split (p : Fin 2) : (slotAny c d p : sProp 𝕄) ⊢ iprop(halfAny c d p 0 ∗ halfAny c d p 1) := by
  unfold slotAny halfAny
  iintro ⟨%X, H⟩
  ihave H' := (slot_split c d p fullShare X) $$ H
  icases H' with ⟨H0, H1⟩
  isplitl [H0]
  · iexists _; iexact H0
  · iexists _; iexact H1

/-! ## The blocks of the result -/

theorem outOff_row : ∀ (d : Bool) (c : Dev nD) (T : Fin 8),
    outOff d c T.val 0 = 512 * (tgt d (back d T.val c)).val + 256 * d.toNat := by decide +kernel

theorem place_inj : ∀ (d : Bool) (c : Dev nD) (T T' : Fin 8), tgt d (back d T.val c) = tgt d (back d T'.val c) → T = T' := by
  decide +kernel

theorem place_surj : ∀ (d : Bool) (c : Dev nD) (q : Fin 8), ∃ T : Fin 8, (tgt d (back d T.val c)).val = q.val := by
  decide +kernel

theorem chunkDev_place : ∀ (d : Bool) (c : Dev nD) (T : Fin 8),
    chunkDev d ⟨(tgt d (back d T.val c)).val, (tgt d (back d T.val c)).isLt⟩ = back d T.val c := by decide +kernel

/-- All blocks, ring by ring. -/
abbrev blkRect (t : Bool × Fin 8) : Rect S4096x8192 := outRect t.1 c t.2

theorem blkRect_row (t : Bool × Fin 8) (j : S256x8192.Idx) :
    ((blkRect c t).emb j 0).val = 512 * (tgt t.1 (back t.1 t.2.val c)).val + 256 * t.1.toNat + (j 0).val := by
  rw [Rect.emb_apply]
  show outOff t.1 c t.2.val 0 + 1 * (j 0).val = _
  rw [outOff_row, Nat.one_mul]

theorem blkRect_col (t : Bool × Fin 8) (j : S256x8192.Idx) : ((blkRect c t).emb j 1).val = (j 1).val := by
  rw [Rect.emb_apply]
  show outOff t.1 c t.2.val 1 + 1 * (j 1).val = _
  rw [outOff_col, Nat.one_mul, Nat.zero_add]

/-- The block an index is in. -/
def blkOf (i : S4096x8192.Idx) : Bool × Fin 8 :=
  (decide ((i 0).val / 256 % 2 = 1),
    (place_surj (decide ((i 0).val / 256 % 2 = 1)) c ⟨(i 0).val / 512, Nat.div_lt_of_lt_mul (i 0).isLt⟩).choose)

theorem blkOf_spec (i : S4096x8192.Idx) :
    (tgt (blkOf c i).1 (back (blkOf c i).1 (blkOf c i).2.val c)).val = (i 0).val / 512 :=
  (place_surj (decide ((i 0).val / 256 % 2 = 1)) c ⟨(i 0).val / 512, Nat.div_lt_of_lt_mul (i 0).isLt⟩).choose_spec

theorem ring_of_row (n j : ℕ) (d : Bool) (hj : j < 256) :
    decide ((512 * n + 256 * d.toNat + j) / 256 % 2 = 1) = d ∧ (512 * n + 256 * d.toNat + j) / 512 = n := by
  cases d
  · refine ⟨?_, ?_⟩
    · rw [decide_eq_false_iff_not]; simp only [Bool.toNat_false]; omega
    · simp only [Bool.toNat_false]; omega
  · refine ⟨?_, ?_⟩
    · rw [decide_eq_true_iff]; simp only [Bool.toNat_true]; omega
    · simp only [Bool.toNat_true]; omega

theorem blkOf_emb (t : Bool × Fin 8) (j : S256x8192.Idx) : blkOf c ((blkRect c t).emb j) = t := by
  obtain ⟨d, T⟩ := t
  have hj : (j 0).val < 256 := (j 0).isLt
  have hr := blkRect_row c (d, T) j
  have h1 : (blkOf c ((blkRect c (d, T)).emb j)).1 = d := by
    show decide (((blkRect c (d, T)).emb j 0).val / 256 % 2 = 1) = d
    rw [hr]; exact (ring_of_row _ _ d hj).1
  have h2 := blkOf_spec c ((blkRect c (d, T)).emb j)
  rw [h1, hr, (ring_of_row _ _ d hj).2] at h2
  exact Prod.ext h1 (place_inj d c _ _ (Fin.ext h2))

/-- Its index in that block. -/
def inBlk2 (i : S4096x8192.Idx) : S256x8192.Idx := fun
  | ⟨0, _⟩ => ⟨(i 0).val % 256, Nat.mod_lt _ (by decide)⟩
  | ⟨1, _⟩ => ⟨(i 1).val, (i 1).isLt⟩

theorem emb_inBlk2 (i : S4096x8192.Idx) : (blkRect c (blkOf c i)).emb (inBlk2 i) = i := by
  funext a
  refine Fin.ext ?_
  match a with
  | ⟨0, _⟩ =>
    refine (blkRect_row c _ _).trans ?_
    rw [blkOf_spec]
    show 512 * ((i 0).val / 512) + 256 * (decide ((i 0).val / 256 % 2 = 1)).toNat + (i 0).val % 256 = (i 0).val
    by_cases h : (i 0).val / 256 % 2 = 1
    · rw [decide_eq_true h, Bool.toNat_true]; omega
    · rw [decide_eq_false h, Bool.toNat_false]; omega
  | ⟨1, _⟩ => exact blkRect_col c _ _

theorem blks_disjoint : ∀ t t', t ≠ t' → Disjoint (blkRect c t).set (blkRect c t').set :=
  rects_disjoint (blkRect c) (blkOf c) (blkOf_emb c)
theorem blks_cover : (Finset.univ : Finset (Bool × Fin 8)).biUnion (fun t => (blkRect c t).set) = Finset.univ :=
  rects_cover (blkRect c) (blkOf c) fun i => ⟨inBlk2 i, emb_inBlk2 c i⟩

theorem flat_eq (X : S1x256x8192.Idx → Elt F .bf16) (j : S256x8192.Idx) (i : S1x256x8192.Idx)
    (h1 : (i 1).val = (j 0).val) (h2 : (i 2).val = (j 1).val) : flat X j = X i := by
  unfold flat
  congr 1
  refine Shape.reshapeEquiv_eq_of_rowMajor _ ?_
  have h0 : (i 0).val < 1 := (i 0).isLt
  rw [Shape.rowMajor_val_three, Shape.rowMajor_val_two]
  show ((i 0).val * 256 + (i 1).val) * 8192 + (i 2).val = (j 0).val * 8192 + (j 1).val
  omega

variable (m : (ℓ : Loc nD τ sig) → Buf (Elt F) ℓ)

theorem outAll_emb (t : Bool × Fin 8) :
    (fun j => outAll m ((blkRect c t).emb j)) = flat (blkAt m t.1 t.2.val c) := by
  obtain ⟨d, T⟩ := t
  funext j
  have hj : (j 0).val < 256 := (j 0).isLt
  have hr := blkRect_row c (d, T) j
  have h1 : decide (((blkRect c (d, T)).emb j 0).val / 256 % 2 = 1) = d := by rw [hr]; exact (ring_of_row _ _ d hj).1
  have h2 : ((blkRect c (d, T)).emb j 0).val / 512 = (tgt d (back d T.val c)).val := by
    rw [hr]; exact (ring_of_row _ _ d hj).2
  have hi0 : (inBlk ((blkRect c (d, T)).emb j) 1).val = (j 0).val := by
    show ((blkRect c (d, T)).emb j 0).val % 256 = (j 0).val
    rw [hr]; cases d <;> simp only [Bool.toNat_false, Bool.toNat_true] <;> omega
  have hi1 : (inBlk ((blkRect c (d, T)).emb j) 2).val = (j 1).val := blkRect_col c (d, T) j
  rw [flat_eq (blkAt m d T.val c) j _ hi0 hi1]
  unfold outAll blkAt
  simp only [h1, h2]
  rw [chunkDev_place]

theorem out_split (X : S4096x8192.Idx → Elt F .bf16) :
    (owns (c : Thread nD τ) (Memref.whole main_v1) fullShare X : sProp 𝕄)
      ⊢ bigSep Finset.univ fun t : Bool × Fin 8 => iprop(∃ Y, owns (c : Thread nD τ) (outBlk t.1 c t.2) fullShare Y) := by
  refine (owns_rects (c : Thread nD τ) (Memref.whole main_v1) fullShare (blkRect c) (fun _ _ => rfl) (blks_disjoint c)
    (blks_cover c) X).trans (bigSep_mono fun t _ => ?_)
  show owns (c : Thread nD τ) (outBlk t.1 c t.2) fullShare (fun j => X ((blkRect c t).emb j))
    ⊢ iprop(∃ Y, owns (c : Thread nD τ) (outBlk t.1 c t.2) fullShare Y)
  iintro H
  iexists _; iexact H

theorem out_join :
    bigSep Finset.univ (fun t : Bool × Fin 8 =>
        owns (c : Thread nD τ) (outBlk t.1 c t.2) fullShare (flat (blkAt m t.1 t.2.val c)))
      ⊢ (owns (c : Thread nD τ) (Memref.whole main_v1) fullShare (outAll m) : sProp 𝕄) := by
  refine BIBase.Entails.trans (bigSep_mono fun t _ => ?_) (owns_of_rects (c : Thread nD τ) (Memref.whole main_v1) fullShare
    (blkRect c) (fun _ _ => rfl) (blks_disjoint c) (blks_cover c) (outAll m))
  exact Entails.of_eq (congrArg (owns (c : Thread nD τ) (outBlk t.1 c t.2) fullShare) (outAll_emb c m t).symm)

end Cert.KernelIdeal.Ring
-- ==== Proof.Reduce.lean ====
module

public import proofs.«01_k».proof.Proof.Parts

@[expose] public section

noncomputable section

/-! # The reduce rings

What a device holds at the start of a reduce step, and the step. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Kd → ℕ)
variable (c : Dev nD)

/-! ## Permissions -/

theorem perm_halves (d : Bool) (i : ℕ) (hi : i < 7) :
    iprop((halfAny c d (slotOf (i + 1)) 0 ∗ halfAny c d (slotOf (i + 1)) 1)
        ∗ reached ER (cell c (.recv d (slotOf (i + 1)) 0)) (i / 2)
        ∗ reached ER (cell c (.recv d (slotOf (i + 1)) 1)) (i / 2))
      ⊢ (perm d (src d c) i : sProp 𝕄) := by
  unfold perm halfAny
  rw [if_pos hi, tgt_src]
  iintro ⟨⟨H0, H1⟩, R0, R1⟩
  isplitl [H0 R0]
  · isplitl [H0]
    · iexact H0
    · iexact R0
  · isplitl [H1]
    · iexact H1
    · iexact R1

theorem perm_slot (d : Bool) (i : ℕ) (hi : 7 ≤ i) :
    iprop(slotAny c d (slotOf (i + 1)) ∗ reached ER (cell c (.recv d (slotOf (i + 1)) 0)) (i / 2))
      ⊢ (perm d (src d c) i : sProp 𝕄) := by
  unfold perm slotAny
  rw [if_neg (by omega), tgt_src]

theorem slotAny_join (d : Bool) (p : Fin 2) : iprop(halfAny c d p 0 ∗ halfAny c d p 1) ⊢ (slotAny c d p : sProp 𝕄) := by
  unfold halfAny slotAny
  iintro ⟨⟨%X, H0⟩, ⟨%Y, H1⟩⟩
  iexists glue ![X, Y]
  iapply (slot_join c d p fullShare ![X, Y])
  isplitl [H0]
  · iexact H0
  · iexact H1

/-! ## What is held -/

/-- Where the device is in its send and receive semaphores at step `j`. -/
def Poss (d : Bool) (k : Fin 2) (j : ℕ) : sProp 𝕄 :=
  iprop(Pos c (.send d (slotOf j) k) (j / 2) ∗ Pos c (.send d (slotOf (j + 1)) k) ((j + 1) / 2)
    ∗ Pos c (.recv d (slotOf (j + 1)) k) (j / 2) ∗ Pos c (.recv d (slotOf j) k) ((j + 1) / 2))

/-- What the transfer of step `j`, half `k`, uses up: the two signals and the unit it waits for. -/
def Sup (d : Bool) (k : Fin 2) (j : ℕ) : sProp 𝕄 :=
  iprop(Tok c (.send d (slotOf j) k) (j / 2) ∗ Tok (tgt d c) (.recv d (slotOf (j + 1)) k) (j / 2)
    ∗ cred (tallyAt (cell c (.recv d (slotOf (j + 1)) k)) (2 * j + 2) (stepUnits j)))

/-- What the credit of round `j` uses up. -/
def CSup (d : Bool) (j : ℕ) : sProp 𝕄 :=
  iprop(Tok (src d c) (.credit d) j ∗ cred (tallyAt (cell c (.credit d)) (2 * j + 3) 1))

/-- Half `k` before the transfer of step `j`, -/
def HalfS (d : Bool) (k : Fin 2) (j : ℕ) : sProp 𝕄 :=
  iprop(owns (c : Thread nD τ) (half d (slotOf j) k) fullShare (sumAt m d j c k)
    ∗ ((∃ X, owns (tgt d c : Thread nD τ) (half d (slotOf (j + 1)) k) fullShare X)
      ∗ reached ER (cell (tgt d c) (.recv d (slotOf (j + 1)) k)) (j / 2))
    ∗ Poss c d k j ∗ Sup c d k j)

/-- while it runs, -/
def HalfM (d : Bool) (k : Fin 2) (j : ℕ) : sProp 𝕄 :=
  iprop(Poss c d k j ∗ cred (tallyAt (cell c (.recv d (slotOf (j + 1)) k)) (2 * j + 2) (stepUnits j))
    ∗ cred (tallyAt (cell c (.send d (slotOf j) k)) (2 * j + 2) (stepUnits j)))

/-- and once what arrived has been added to. -/
def HalfE (d : Bool) (k : Fin 2) (j : ℕ) : sProp 𝕄 :=
  iprop(owns (c : Thread nD τ) (half d (slotOf (j + 1)) k) fullShare (sumAt m d (j + 1) c k)
    ∗ halfAny c d (slotOf j) k ∗ Poss c d k (j + 1) ∗ reached ER (cell (src d c) (.credit d)) j)

theorem pos_eq (k : Kd) (R : ℕ) :
    (Pos c k R : sProp 𝕄) = iprop(atPos ER (cell c k) R ∅ 0 ∗ reached ER (cell c k) R) := rfl

/-- One step further in every semaphore. -/
theorem poss_next (d : Bool) (k : Fin 2) (j : ℕ) :
    iprop(Pos c (.send d (slotOf j) k) (j / 2 + 1) ∗ Pos c (.send d (slotOf (j + 1)) k) ((j + 1) / 2)
        ∗ Pos c (.recv d (slotOf (j + 1)) k) (j / 2 + 1) ∗ Pos c (.recv d (slotOf j) k) ((j + 1) / 2))
      ⊢ (Poss c d k (j + 1) : sProp 𝕄) := by
  unfold Poss
  rw [slotOf_add_two, show (j + 1 + 1) / 2 = j / 2 + 1 by omega]
  iintro ⟨H1, H2, H3, H4⟩
  isplitl [H2]; · iexact H2
  isplitl [H1]; · iexact H1
  isplitl [H4]; · iexact H4
  iexact H3

theorem sentPay_half (d : Bool) (j : ℕ) (k : Fin 2) (hj : j < 7) :
    sentPay m d c j k = owns (c : Thread nD τ) (half d (slotOf j) k) fullShare (sumAt m d j c k) := if_pos hj

theorem gotPay_half (d : Bool) (j : ℕ) (k : Fin 2) (hj : j < 7) :
    gotPay m d c j k = iprop(owns (c : Thread nD τ) (half d (slotOf (j + 1)) k) fullShare (sumAt m d j (src d c) k)
      ∗ reached ER (cell (src d c) (.credit d)) j) := by
  unfold gotPay; rw [if_pos hj]

variable (p : P F) (Q : PUnit → sProp (MT nD τ sig ℕ (Elt F) ℕ UU ℕ))

theorem wp_startHalf (d : Bool) (j : ℕ) (k : Fin 2) (hj : j < 7) (O : Debt) :
    iprop(ctx m K ∗ reached ER (cell c (.credit d)) j ∗ Owes c (O + sendDebt d c j k) ∗ HalfS m c d k j)
      ⊢ iprop(((Owes c O ∗ HalfM c d k j) -∗ WP c p Q) -∗ WP c (sendSub d c j k p) Q) := by
  unfold HalfS HalfM Sup Poss Pos
  iintro ⟨#Hctx, #Hcr, HO, ⟨Hs, ⟨Hd, Hr2⟩, ⟨⟨Hat, #Hr1⟩, Hpos⟩, Ht1, Ht2, Hcred⟩⟩ Hk
  iapply (wp_sendSub m K c p Q d j k hj O) $$ [HO Hs Hd Hr2 Ht1 Ht2]
  · isplitr; · iexact Hctx
    isplitl [HO]; · iexact HO
    isplitl [Hs]; · iexact Hs
    isplitl [Hd]; · iexact Hd
    isplitl [Hr2]; · iexact Hr2
    isplitr; · iexact Hr1
    isplitr; · iexact Hcr
    isplitl [Ht1]; · iexact Ht1
    iexact Ht2
  iintro ⟨HO, Hc⟩
  iapply Hk
  isplitl [HO]; · iexact HO
  isplitl [Hat Hpos]
  · isplitl [Hat]
    · isplitl [Hat]; · iexact Hat
      iexact Hr1
    iexact Hpos
  isplitl [Hcred]; · iexact Hcred
  iexact Hc

theorem wp_takeHalf (d : Bool) (j : ℕ) (k : Fin 2) (hj : j < 7) :
    iprop(ctx m K ∗ Owes c (owed c (j + 1) + creditsDebt c j) ∗ HalfM c d k j)
      ⊢ iprop(((Owes c (owed c (j + 1) + creditsDebt c j) ∗ HalfE m c d k j) -∗ WP c p Q)
          -∗ WP c (takeSub d j k (k0_pay5 (xRows m d c j k) (wAll m c)) p) Q) := by
  unfold HalfM HalfE Poss takeSub
  iintro ⟨#Hctx, HO, ⟨⟨Hp1, Hp2, Hp3, Hp4⟩, Hcr, Hcs⟩⟩ Hk
  iapply (wp_sentSub m K c _ Q d j k hj) $$ [HO Hcs Hp1]
  · isplitr; · iexact Hctx
    isplitl [Hcs]; · iexact Hcs
    isplitl [HO]; · iexact HO
    iexact Hp1
  iintro ⟨HO, Hp1, Hold⟩
  iapply (wp_gotSub m K c _ Q d j k hj) $$ [HO Hcr Hp3]
  · isplitr; · iexact Hctx
    isplitl [Hcr]; · iexact Hcr
    isplitl [HO]; · iexact HO
    iexact Hp3
  iintro ⟨HO, Hp3, Hnew⟩
  ihave Hold := (Entails.of_eq (sentPay_half m c d j k hj)) $$ Hold
  ihave Hnew := (Entails.of_eq (gotPay_half m c d j k hj)) $$ Hnew
  icases Hnew with ⟨Hnew, Hrc⟩
  iapply (wp_loadSub c Q d (j + 1) k fullShare _ _) $$ Hnew
  iintro Hnew
  iapply (wp_loadSub c Q d (j + 1) k fullShare _ _) $$ Hnew
  iintro Hnew
  iapply (wp_storeSub c p Q d (j + 1) k _ _) $$ Hnew
  iintro Hnew
  iapply Hk
  isplitl [HO]; · iexact HO
  isplitl [Hnew]; · iexact Hnew
  isplitl [Hold]; · unfold halfAny; iexists _; iexact Hold
  isplitl [Hp1 Hp2 Hp3 Hp4]
  · iapply (show iprop(Pos c (.send d (slotOf j) k) (j / 2 + 1) ∗ Pos c (.send d (slotOf (j + 1)) k) ((j + 1) / 2)
        ∗ Pos c (.recv d (slotOf (j + 1)) k) (j / 2 + 1) ∗ Pos c (.recv d (slotOf j) k) ((j + 1) / 2))
      ⊢ iprop(Pos c (.send d (slotOf (j + 1)) k) ((j + 1) / 2) ∗ Pos c (.send d (slotOf (j + 1 + 1)) k) ((j + 1 + 1) / 2)
        ∗ Pos c (.recv d (slotOf (j + 1 + 1)) k) ((j + 1) / 2) ∗ Pos c (.recv d (slotOf (j + 1)) k) ((j + 1 + 1) / 2))
      from poss_next c d k j)
    isplitl [Hp1]; · iexact Hp1
    isplitl [Hp2]; · iexact Hp2
    isplitl [Hp3]; · iexact Hp3
    iexact Hp4
  iexact Hrc

/-- Half `k` of both rings. -/
theorem wp_addHalf (j : ℕ) (k : Fin 2) (hj : j < 7) :
    iprop(ctx m K ∗ ins m c ∗ Owes c (owed c (j + 1) + creditsDebt c j) ∗ HalfM c false k j ∗ HalfM c true k j)
      ⊢ iprop(((ins m c ∗ Owes c (owed c (j + 1) + creditsDebt c j) ∗ HalfE m c false k j ∗ HalfE m c true k j) -∗ WP c p Q)
          -∗ WP c (addHalf c j k p) Q) := by
  unfold addHalf
  iintro ⟨#Hctx, Hin, HO, Hf, Ht⟩ Hk
  iapply (wp_loadX m c Q false j k _) $$ Hin
  iintro Hin
  iapply (wp_loadW m c Q _) $$ Hin
  iintro Hin
  iapply (wp_loadX m c Q true j k _) $$ Hin
  iintro Hin
  iapply (wp_loadW m c Q _) $$ Hin
  iintro Hin
  iapply (wp_takeHalf m K c _ Q false j k hj) $$ [HO Hf]
  · isplitr; · iexact Hctx
    isplitl [HO]; · iexact HO
    iexact Hf
  iintro ⟨HO, Hf⟩
  iapply (wp_takeHalf m K c _ Q true j k hj) $$ [HO Ht]
  · isplitr; · iexact Hctx
    isplitl [HO]; · iexact HO
    iexact Ht
  iintro ⟨HO, Ht⟩
  iapply Hk
  isplitl [Hin]; · iexact Hin
  isplitl [HO]; · iexact HO
  isplitl [Hf]; · iexact Hf
  iexact Ht

/-! ## The step -/

/-- A ring before reduce step `j`, -/
def RingS (d : Bool) (j : ℕ) : sProp 𝕄 :=
  iprop(HalfS m c d 0 j ∗ HalfS m c d 1 j ∗ Pos c (.credit d) j ∗ Tok (src d c) (.credit d) j)

/-- and after it. -/
def RingE (d : Bool) (j : ℕ) : sProp 𝕄 :=
  iprop((owns (c : Thread nD τ) (half d (slotOf j) 0) fullShare (sumAt m d j c 0)
      ∗ owns (c : Thread nD τ) (half d (slotOf j) 1) fullShare (sumAt m d j c 1))
    ∗ (Poss c d 0 j ∗ Poss c d 1 j))

theorem poss_reached (d : Bool) (k : Fin 2) (j : ℕ) :
    (Poss c d k j : sProp 𝕄) ⊢ iprop(Poss c d k j ∗ reached ER (cell c (.recv d (slotOf (j + 1)) k)) (j / 2)) := by
  unfold Poss Pos
  iintro ⟨H1, H2, ⟨H3, #R⟩, H4⟩
  isplitl [H1 H2 H3 H4]
  · isplitl [H1]; · iexact H1
    isplitl [H2]; · iexact H2
    isplitl [H3]
    · isplitl [H3]; · iexact H3
      iexact R
    iexact H4
  iexact R

/-- The credit at the end of reduce step `j`. -/
theorem wp_giveHalves (d : Bool) (j : ℕ) (hj : j < 7) (O : Debt) :
    iprop(ctx m K ∗ Owes c (O + creditDebt d c j) ∗ Tok (src d c) (.credit d) j ∗ HalfE m c d 0 j ∗ HalfE m c d 1 j)
      ⊢ iprop(((Owes c O ∗ RingE m c d (j + 1)) -∗ WP c p Q) -∗ WP c (creditSignal d c p) Q) := by
  unfold HalfE RingE
  iintro ⟨#Hctx, HO, Htok, ⟨Hn0, Ho0, Hp0, #Hr⟩, ⟨Hn1, Ho1, Hp1, -⟩⟩ Hk
  ihave Hp0 := (poss_reached c d 0 (j + 1)) $$ Hp0
  ihave Hp1 := (poss_reached c d 1 (j + 1)) $$ Hp1
  icases Hp0 with ⟨Hp0, #Hr0⟩
  icases Hp1 with ⟨Hp1, #Hr1⟩
  iapply (wp_creditSignal m K c p Q d j (by omega) O) $$ [HO Htok Ho0 Ho1]
  · isplitr; · iexact Hctx
    isplitl [HO]; · iexact HO
    isplitl [Htok]; · iexact Htok
    isplitl [Ho0 Ho1]
    · rcases Nat.lt_or_ge (j + 1) 7 with h | h
      · iapply (perm_halves c d (j + 1) h)
        isplitl [Ho0 Ho1]
        · rw [slotOf_add_two]
          isplitl [Ho0]; · iexact Ho0
          iexact Ho1
        isplitr; · iexact Hr0
        iexact Hr1
      · iapply (perm_slot c d (j + 1) h)
        isplitl [Ho0 Ho1]
        · rw [slotOf_add_two]
          iapply (slotAny_join c d (slotOf j))
          isplitl [Ho0]; · iexact Ho0
          iexact Ho1
        iexact Hr0
    iexact Hr
  iintro HO
  iapply Hk
  isplitl [HO]; · iexact HO
  isplitl [Hn0 Hn1]
  · isplitl [Hn0]; · iexact Hn0
    iexact Hn1
  isplitl [Hp0]; · iexact Hp0
  iexact Hp1

theorem wp_reduceCore (j : ℕ) (hj : j < 7) :
    iprop(ctx m K ∗ ins m c ∗ Owes c (owed c j) ∗ RingS m c false j ∗ RingS m c true j)
      ⊢ iprop(((ins m c ∗ Owes c (owed c (j + 1)) ∗ (RingE m c false (j + 1) ∗ Pos c (.credit false) j)
            ∗ (RingE m c true (j + 1) ∗ Pos c (.credit true) j)) -∗ WP c p Q)
          -∗ WP c (reduceCore c j p) Q) := by
  have hO : owed c j = (((owed c (j + 1) + creditsDebt c j + sendDebt true c j 1) + sendDebt false c j 1)
      + sendDebt true c j 0) + sendDebt false c j 0 := by
    rw [owed_step c j (by omega), sendsDebt, if_pos hj]; simp only [add_assoc]
  have hC : owed c (j + 1) + creditsDebt c j = (owed c (j + 1) + creditDebt true c j) + creditDebt false c j := by
    rw [creditsDebt, if_pos (by omega), add_assoc]
  rw [hO]
  unfold RingS reduceCore
  rw [pos_eq c (.credit false) j, pos_eq c (.credit true) j]
  iintro ⟨#Hctx, Hin, HO, ⟨Hf0, Hf1, ⟨Hatf, #Hrf⟩, Htf⟩, ⟨Ht0, Ht1, ⟨Hatt, #Hrt⟩, Htt⟩⟩ Hk
  iapply (wp_startHalf m K c _ Q false j 0 hj _) $$ [HO Hf0]
  · isplitr; · iexact Hctx
    isplitr; · iexact Hrf
    isplitl [HO]; · iexact HO
    iexact Hf0
  iintro ⟨HO, Hf0⟩
  iapply (wp_startHalf m K c _ Q true j 0 hj _) $$ [HO Ht0]
  · isplitr; · iexact Hctx
    isplitr; · iexact Hrt
    isplitl [HO]; · iexact HO
    iexact Ht0
  iintro ⟨HO, Ht0⟩
  iapply (wp_startHalf m K c _ Q false j 1 hj _) $$ [HO Hf1]
  · isplitr; · iexact Hctx
    isplitr; · iexact Hrf
    isplitl [HO]; · iexact HO
    iexact Hf1
  iintro ⟨HO, Hf1⟩
  iapply (wp_startHalf m K c _ Q true j 1 hj _) $$ [HO Ht1]
  · isplitr; · iexact Hctx
    isplitr; · iexact Hrt
    isplitl [HO]; · iexact HO
    iexact Ht1
  iintro ⟨HO, Ht1⟩
  iapply (wp_addHalf m K c _ Q j 0 hj) $$ [Hin HO Hf0 Ht0]
  · isplitr; · iexact Hctx
    isplitl [Hin]; · iexact Hin
    isplitl [HO]; · iexact HO
    isplitl [Hf0]; · iexact Hf0
    iexact Ht0
  iintro ⟨Hin, HO, Hf0, Ht0⟩
  iapply (wp_addHalf m K c _ Q j 1 hj) $$ [Hin HO Hf1 Ht1]
  · isplitr; · iexact Hctx
    isplitl [Hin]; · iexact Hin
    isplitl [HO]; · iexact HO
    isplitl [Hf1]; · iexact Hf1
    iexact Ht1
  iintro ⟨Hin, HO, Hf1, Ht1⟩
  rw [hC]
  iapply (wp_giveHalves m K c _ Q false j hj _) $$ [HO Htf Hf0 Hf1]
  · isplitr; · iexact Hctx
    isplitl [HO]; · iexact HO
    isplitl [Htf]; · iexact Htf
    isplitl [Hf0]; · iexact Hf0
    iexact Hf1
  iintro ⟨HO, Hf⟩
  iapply (wp_giveHalves m K c _ Q true j hj _) $$ [HO Htt Ht0 Ht1]
  · isplitr; · iexact Hctx
    isplitl [HO]; · iexact HO
    isplitl [Htt]; · iexact Htt
    isplitl [Ht0]; · iexact Ht0
    iexact Ht1
  iintro ⟨HO, Ht⟩
  iapply Hk
  isplitl [Hin]; · iexact Hin
  isplitl [HO]; · iexact HO
  isplitl [Hf Hatf]
  · isplitl [Hf]; · iexact Hf
    isplitl [Hatf]; · iexact Hatf
    iexact Hrf
  isplitl [Ht]; · iexact Ht
  isplitl [Hatt]; · iexact Hatt
  iexact Hrt

/-! ## The loop -/

/-- One thing for each of `n` steps from `j` on. -/
def seq (f : ℕ → sProp 𝕄) : ℕ → ℕ → sProp 𝕄
  | _, 0 => iprop(emp)
  | j, n + 1 => iprop(f j ∗ seq f (j + 1) n)

/-- What step `j + 1` of a ring uses up: its transfers, the credit it waits for, and the credit it gives. -/
def StepSup (d : Bool) (i : ℕ) : sProp 𝕄 :=
  iprop((Sup c d 0 i ∗ Sup c d 1 i) ∗ cred (tallyAt (cell c (.credit d)) (2 * (i - 1) + 3) 1) ∗ Tok (src d c) (.credit d) i)

theorem ring_start (d : Bool) (j : ℕ) (hj : j < 7) :
    iprop(RingE m c d j ∗ perm d c j ∗ (Sup c d 0 j ∗ Sup c d 1 j) ∗ Pos c (.credit d) j ∗ Tok (src d c) (.credit d) j)
      ⊢ RingS m c d j := by
  unfold RingE RingS HalfS perm
  rw [if_pos hj]
  iintro ⟨⟨⟨H0, H1⟩, ⟨P0, P1⟩⟩, ⟨D0, D1⟩, ⟨S0, S1⟩, Hc, Ht⟩
  isplitl [H0 D0 P0 S0]
  · isplitl [H0]; · iexact H0
    isplitl [D0]; · iexact D0
    isplitl [P0]; · iexact P0
    iexact S0
  isplitl [H1 D1 P1 S1]
  · isplitl [H1]; · iexact H1
    isplitl [D1]; · iexact D1
    isplitl [P1]; · iexact P1
    iexact S1
  isplitl [Hc]; · iexact Hc
  iexact Ht

theorem wp_reduceStep (j : ℕ) (hj : j + 1 < 7) :
    iprop(ctx m K ∗ ins m c ∗ Owes c (owed c (j + 1)) ∗ (RingE m c false (j + 1) ∗ Pos c (.credit false) j)
        ∗ (RingE m c true (j + 1) ∗ Pos c (.credit true) j) ∗ StepSup c false (j + 1) ∗ StepSup c true (j + 1))
      ⊢ iprop(((ins m c ∗ Owes c (owed c (j + 2)) ∗ (RingE m c false (j + 2) ∗ Pos c (.credit false) (j + 1))
            ∗ (RingE m c true (j + 2) ∗ Pos c (.credit true) (j + 1))) -∗ WP c p Q)
          -∗ WP c (reduceStep c (j + 1) p) Q) := by
  unfold StepSup reduceStep
  rw [Nat.add_sub_cancel]
  iintro ⟨#Hctx, Hin, HO, ⟨Hf, Hcf⟩, ⟨Ht, Hct⟩, ⟨Sf, Cf, Tf⟩, ⟨St, Ct, Tt⟩⟩ Hk
  iapply (wp_creditWait m K c _ Q false j (by omega)) $$ [HO Hcf Cf]
  · isplitr; · iexact Hctx
    isplitl [Cf]; · iexact Cf
    isplitl [HO]; · iexact HO
    iexact Hcf
  iintro ⟨HO, Hcf, Pf⟩
  iapply (wp_creditWait m K c _ Q true j (by omega)) $$ [HO Hct Ct]
  · isplitr; · iexact Hctx
    isplitl [Ct]; · iexact Ct
    isplitl [HO]; · iexact HO
    iexact Hct
  iintro ⟨HO, Hct, Pt⟩
  iapply (wp_reduceCore m K c p Q (j + 1) hj) $$ [Hin HO Hf Ht Hcf Hct Pf Pt Sf St Tf Tt]
  · isplitr; · iexact Hctx
    isplitl [Hin]; · iexact Hin
    isplitl [HO]; · iexact HO
    isplitl [Hf Hcf Pf Sf Tf]
    · iapply (ring_start m c false (j + 1) hj)
      isplitl [Hf]; · iexact Hf
      isplitl [Pf]; · iexact Pf
      isplitl [Sf]; · iexact Sf
      isplitl [Hcf]; · iexact Hcf
      iexact Tf
    · iapply (ring_start m c true (j + 1) hj)
      isplitl [Ht]; · iexact Ht
      isplitl [Pt]; · iexact Pt
      isplitl [St]; · iexact St
      isplitl [Hct]; · iexact Hct
      iexact Tt
  iexact Hk

theorem wp_reduceLoop (n j : ℕ) (hj : j + n < 7) :
    iprop(ctx m K ∗ ins m c ∗ Owes c (owed c (j + 1)) ∗ (RingE m c false (j + 1) ∗ Pos c (.credit false) j)
        ∗ (RingE m c true (j + 1) ∗ Pos c (.credit true) j) ∗ seq (StepSup c false) (j + 1) n ∗ seq (StepSup c true) (j + 1) n)
      ⊢ iprop(((ins m c ∗ Owes c (owed c (j + n + 1)) ∗ (RingE m c false (j + n + 1) ∗ Pos c (.credit false) (j + n))
            ∗ (RingE m c true (j + n + 1) ∗ Pos c (.credit true) (j + n))) -∗ WP c p Q)
          -∗ WP c (loop (reduceStep c) (j + 1) n p) Q) := by
  induction n generalizing j with
  | zero =>
    iintro ⟨-, Hin, HO, Hf, Ht, -, -⟩ Hk
    iapply Hk
    isplitl [Hin]; · iexact Hin
    isplitl [HO]; · iexact HO
    isplitl [Hf]; · iexact Hf
    iexact Ht
  | succ n ih =>
    unfold seq loop
    iintro ⟨#Hctx, Hin, HO, Hf, Ht, ⟨Sf, Sf'⟩, ⟨St, St'⟩⟩ Hk
    iapply (wp_reduceStep m K c _ Q j (by omega)) $$ [Hin HO Hf Ht Sf St]
    · isplitr; · iexact Hctx
      isplitl [Hin]; · iexact Hin
      isplitl [HO]; · iexact HO
      isplitl [Hf]; · iexact Hf
      isplitl [Ht]; · iexact Ht
      isplitl [Sf]; · iexact Sf
      iexact St
    iintro ⟨Hin, HO, Hf, Ht⟩
    iapply (ih (j + 1) (by omega)) $$ [Hin HO Hf Ht Sf' St']
    · isplitr; · iexact Hctx
      isplitl [Hin]; · iexact Hin
      isplitl [HO]; · iexact HO
      isplitl [Hf]; · iexact Hf
      isplitl [Ht]; · iexact Ht
      isplitl [Sf']; · iexact Sf'
      iexact St'
    rw [show j + 1 + n = j + (n + 1) by omega]
    iexact Hk

end Cert.KernelIdeal.Ring
-- ==== Proof.Gather.lean ====
module

public import proofs.«01_k».proof.Proof.Reduce

@[expose] public section

noncomputable section

/-! # The gather rings

What a device holds at the start of a gather step, and the step. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Kd → ℕ)
variable (c : Dev nD)

theorem slotOf_seven (T : ℕ) : slotOf (T + 7) = slotOf (T + 1) := Fin.ext (by rw [slotOf_val, slotOf_val]; omega)
theorem slotOf_eight (T : ℕ) : slotOf (T + 7 + 1) = slotOf (T + 2) := Fin.ext (by rw [slotOf_val, slotOf_val]; omega)

/-- Where the device is in the semaphores of the copies at gather step `T`. -/
def CPoss (d : Bool) (T : ℕ) : sProp 𝕄 :=
  iprop(Pos c (.copy d (slotOf (T + 1))) (T / 2) ∗ Pos c (.copy d (slotOf (T + 2))) ((T + 1) / 2))

/-- The copy of block `T` is running. -/
def Copying (d : Bool) (T : ℕ) : sProp 𝕄 :=
  iprop(cred (tallyAt (cell c (.copy d (slotOf (T + 1)))) (2 * T + 16) NB) ∗ CPoss c d T)

/-- Block `T` of the result is in place. -/
def Done (d : Bool) (T : ℕ) : sProp 𝕄 :=
  owns (c : Thread nD τ) (outBlk d c (blkNo T)) fullShare (flat (blkAt m d T c))

/-- The place of block `T` in the result. -/
def Place (d : Bool) (T : ℕ) : sProp 𝕄 := iprop(∃ X, owns (c : Thread nD τ) (outBlk d c (blkNo T)) fullShare X)

/-- A ring at gather step `T`: block `T` is here, and being copied out. -/
def GRing (d : Bool) (T : ℕ) : sProp 𝕄 :=
  iprop(owns (c : Thread nD τ) (full d (slotOf (T + 1))) fullShare.left (blkAt m d T c) ∗ Poss c d 0 (T + 7) ∗ Copying c d T)

/-- What step `T` uses up. -/
def GSup (d : Bool) (T : ℕ) : sProp 𝕄 :=
  iprop(Sup c d 0 (T + 7) ∗ cred (tallyAt (cell c (.credit d)) (2 * (T + 6) + 3) 1)
    ∗ Tok c (.copy d (slotOf (T + 2))) ((T + 1) / 2) ∗ Place c d (T + 1))

variable (p : P F) (Q : PUnit → sProp (MT nD τ sig ℕ (Elt F) ℕ UU ℕ))

theorem sentPay_slot (d : Bool) (T : ℕ) :
    sentPay m d c (T + 7) 0 = owns (c : Thread nD τ) (full d (slotOf (T + 1))) fullShare.left (blkAt m d T c) := by
  unfold sentPay; rw [if_neg (by omega), slotOf_seven, Nat.add_sub_cancel]

theorem gotPay_slot (d : Bool) (T : ℕ) :
    gotPay m d c (T + 7) 0 = iprop(owns (c : Thread nD τ) (full d (slotOf (T + 2))) fullShare (blkAt m d (T + 1) c)
      ∗ reached ER (cell (src d c) (.credit d)) (T + 7)) := by
  unfold gotPay; rw [if_neg (by omega), slotOf_eight, Nat.add_sub_cancel]

/-- The transfer of block `T`. -/
theorem wp_startSlot (d : Bool) (T : ℕ) (hT : T < 7) (O : Debt) :
    iprop(ctx m K ∗ reached ER (cell c (.credit d)) (T + 7) ∗ Owes c (O + sendDebt d c (T + 7) 0)
        ∗ owns (c : Thread nD τ) (full d (slotOf (T + 1))) fullShare.left (blkAt m d T c)
        ∗ perm d c (T + 7) ∗ Poss c d 0 (T + 7) ∗ Sup c d 0 (T + 7))
      ⊢ iprop(((Owes c O ∗ HalfM c d 0 (T + 7)) -∗ WP c p Q) -∗ WP c (sendSlot d c (T + 7) p) Q) := by
  have hperm : perm (F := F) d c (T + 7) = iprop((∃ X, owns (tgt d c : Thread nD τ) (full d (slotOf (T + 7 + 1))) fullShare X)
      ∗ reached ER (cell (tgt d c) (.recv d (slotOf (T + 7 + 1)) 0)) ((T + 7) / 2)) := if_neg (by omega)
  have hs : (owns (c : Thread nD τ) (full d (slotOf (T + 1))) fullShare.left (blkAt m d T c) : sProp 𝕄)
      = owns (c : Thread nD τ) (full d (slotOf (T + 7))) fullShare.left (blkAt m d (T + 7 - 7) c) := by
    rw [slotOf_seven, Nat.add_sub_cancel]
  rw [hperm, hs]
  unfold HalfM Sup Poss
  rw [pos_eq c (.send d (slotOf (T + 7)) 0)]
  iintro ⟨#Hctx, #Hcr, HO, Hs, ⟨Hd, Hr2⟩, ⟨⟨Hat, #Hr1⟩, Hpos⟩, Ht1, Ht2, Hcred⟩ Hk
  iapply (wp_sendSlot m K c p Q d (T + 7) (by omega) (by omega) O) $$ [HO Hs Hd Hr2 Ht1 Ht2]
  · isplitr; · iexact Hctx
    isplitl [HO]; · iexact HO
    isplitl [Hs]; · iexact Hs
    isplitl [Hd]; · iexact Hd
    isplitl [Hr2]; · iexact Hr2
    isplitr; · iexact Hr1
    isplitr; · iexact Hcr
    isplitl [Ht1]; · iexact Ht1
    iexact Ht2
  iintro ⟨HO, Hc⟩
  iapply Hk
  isplitl [HO]; · iexact HO
  isplitl [Hat Hpos]
  · isplitl [Hat]
    · isplitl [Hat]; · iexact Hat
      iexact Hr1
    iexact Hpos
  isplitl [Hcred]; · iexact Hcred
  iexact Hc

/-- Block `T` has left and block `T + 1` has arrived. -/
theorem wp_turnSlot (d : Bool) (T : ℕ) (hT : T < 7) :
    iprop(ctx m K ∗ Owes c (owed c (T + 8) + creditsDebt c (T + 7)) ∗ HalfM c d 0 (T + 7))
      ⊢ iprop(((Owes c (owed c (T + 8) + creditsDebt c (T + 7))
            ∗ owns (c : Thread nD τ) (full d (slotOf (T + 1))) fullShare.left (blkAt m d T c)
            ∗ owns (c : Thread nD τ) (full d (slotOf (T + 2))) fullShare (blkAt m d (T + 1) c)
            ∗ Poss c d 0 (T + 8) ∗ reached ER (cell (src d c) (.credit d)) (T + 7)) -∗ WP c p Q)
          -∗ WP c (sentSlot d (T + 7) <| gotSlot d (T + 7) p) Q) := by
  unfold HalfM
  iintro ⟨#Hctx, HO, ⟨Hp, Hcr, Hcs⟩⟩ Hk
  ihave Hp := (show (Poss c d 0 (T + 7) : sProp 𝕄) ⊢ iprop(Pos c (.send d (slotOf (T + 7)) 0) ((T + 7) / 2)
    ∗ Pos c (.send d (slotOf (T + 7 + 1)) 0) ((T + 7 + 1) / 2)
    ∗ Pos c (.recv d (slotOf (T + 7 + 1)) 0) ((T + 7) / 2) ∗ Pos c (.recv d (slotOf (T + 7)) 0) ((T + 7 + 1) / 2)) from .rfl) $$ Hp
  icases Hp with ⟨Hp1, Hp2, Hp3, Hp4⟩
  iapply (wp_sentSlot m K c _ Q d (T + 7) (by omega) (by omega)) $$ [HO Hcs Hp1]
  · isplitr; · iexact Hctx
    isplitl [Hcs]; · iexact Hcs
    isplitl [HO]; · iexact HO
    iexact Hp1
  iintro ⟨HO, Hp1, Hold⟩
  iapply (wp_gotSlot m K c _ Q d (T + 7) (by omega) (by omega)) $$ [HO Hcr Hp3]
  · isplitr; · iexact Hctx
    isplitl [Hcr]; · iexact Hcr
    isplitl [HO]; · iexact HO
    iexact Hp3
  iintro ⟨HO, Hp3, Hnew⟩
  ihave Hold := (Entails.of_eq (sentPay_slot m c d T)) $$ Hold
  ihave Hnew := (Entails.of_eq (gotPay_slot m c d T)) $$ Hnew
  icases Hnew with ⟨Hnew, Hrc⟩
  iapply Hk
  isplitl [HO]; · iexact HO
  isplitl [Hold]; · iexact Hold
  isplitl [Hnew]; · iexact Hnew
  isplitl [Hp1 Hp2 Hp3 Hp4]
  · iapply (poss_next c d 0 (T + 7))
    isplitl [Hp1]; · iexact Hp1
    isplitl [Hp2]; · iexact Hp2
    isplitl [Hp3]; · iexact Hp3
    iexact Hp4
  iexact Hrc

/-- The copy of a block starts: half of the slot is lent to it. -/
theorem wp_startCopy (d : Bool) (T : ℕ) (hT : T < 8) :
    iprop(ctx m K ∗ owns (c : Thread nD τ) (full d (slotOf (T + 1))) fullShare (blkAt m d T c) ∗ Place c d T
        ∗ reached ER (cell c (.copy d (slotOf (T + 1)))) (T / 2) ∗ Tok c (.copy d (slotOf (T + 1))) (T / 2))
      ⊢ iprop(((owns (c : Thread nD τ) (full d (slotOf (T + 1))) fullShare.left (blkAt m d T c)
            ∗ cred (tallyAt (cell c (.copy d (slotOf (T + 1)))) (2 * T + 16) NB)) -∗ WP c p Q)
          -∗ WP c (copyOut d c T p) Q) := by
  unfold Place
  iintro ⟨#Hctx, Hs, Hd, Hr, Ht⟩ Hk
  ihave Hs := (owns_halves (c : Thread nD τ) (full d (slotOf (T + 1))) fullShare (blkAt m d T c)).1 $$ Hs
  icases Hs with ⟨Hl, Hs⟩
  iapply (wp_copyOut m K c p Q d T hT) $$ [Hs Hd Hr Ht]
  · isplitr; · iexact Hctx
    isplitl [Hs]; · iexact Hs
    isplitl [Hd]; · iexact Hd
    isplitl [Hr]; · iexact Hr
    iexact Ht
  iintro Hc
  iapply Hk
  isplitl [Hl]; · iexact Hl
  iexact Hc

/-- The copy of a block is over: the slot is whole again. -/
theorem wp_endCopy (d : Bool) (T : ℕ) (hT : T < 8) (O : Debt) (hO : Above (2 * T + 16) O) :
    iprop(ctx m K ∗ Owes c O ∗ Copying c d T
        ∗ owns (c : Thread nD τ) (full d (slotOf (T + 1))) fullShare.left (blkAt m d T c))
      ⊢ iprop(((Owes c O ∗ CPoss c d (T + 1) ∗ slotAny c d (slotOf (T + 1)) ∗ Done m c d T) -∗ WP c p Q)
          -∗ WP c (copied d c T p) Q) := by
  unfold Copying CPoss
  iintro ⟨#Hctx, HO, ⟨Hc, Hp1, Hp2⟩, Hl⟩ Hk
  iapply (wp_copied m K c p Q d T hT O hO) $$ [HO Hc Hp1]
  · isplitr; · iexact Hctx
    isplitl [Hc]; · iexact Hc
    isplitl [HO]; · iexact HO
    iexact Hp1
  unfold copyPay
  iintro ⟨HO, Hp1, Hr, Hd⟩
  ihave Hs := (owns_halves (c : Thread nD τ) (full d (slotOf (T + 1))) fullShare (blkAt m d T c)).2 $$ [Hl Hr]
  · isplitl [Hl]; · iexact Hl
    iexact Hr
  iapply Hk
  isplitl [HO]; · iexact HO
  isplitl [Hp1 Hp2]
  · rw [show slotOf (T + 1 + 2) = slotOf (T + 1) from slotOf_add_two (T + 1), show (T + 1 + 1) / 2 = T / 2 + 1 by omega]
    isplitl [Hp2]; · iexact Hp2
    iexact Hp1
  isplitl [Hs]; · unfold slotAny; iexists _; iexact Hs
  unfold Done; iexact Hd

/-- A ring after step `T`, with what is left to give back. -/
def GEnd (d : Bool) (T : ℕ) : sProp 𝕄 :=
  iprop(GRing m c d (T + 1) ∗ Pos c (.credit d) (T + 7) ∗ Done m c d T
    ∗ slotAny c d (slotOf (T + 1)) ∗ reached ER (cell (src d c) (.credit d)) (T + 7))

theorem pos_reached (k : Kd) (R : ℕ) : (Pos c k R : sProp 𝕄) ⊢ iprop(Pos c k R ∗ reached ER (cell c k) R) := by
  rw [pos_eq]
  iintro ⟨Hp, #Hr⟩
  isplitl [Hp]
  · isplitl [Hp]; · iexact Hp
    iexact Hr
  iexact Hr

theorem cposs_split (d : Bool) (T : ℕ) :
    (Copying c d T : sProp 𝕄) ⊢ iprop(Copying c d T ∗ reached ER (cell c (.copy d (slotOf (T + 2)))) ((T + 1) / 2)) := by
  unfold Copying CPoss
  rw [pos_eq c (.copy d (slotOf (T + 2)))]
  iintro ⟨Hc, Hp1, Hp2, #Hr⟩
  isplitl [Hc Hp1 Hp2]
  · isplitl [Hc]; · iexact Hc
    isplitl [Hp1]; · iexact Hp1
    isplitl [Hp2]; · iexact Hp2
    iexact Hr
  iexact Hr

theorem wp_gatherCore (T : ℕ) (hT : T < 7) :
    iprop(ctx m K ∗ Owes c (owed c (T + 7)) ∗ (GRing m c false T ∗ Pos c (.credit false) (T + 6) ∗ GSup c false T)
        ∗ (GRing m c true T ∗ Pos c (.credit true) (T + 6) ∗ GSup c true T))
      ⊢ iprop(((Owes c (owed c (T + 8) + creditsDebt c (T + 7)) ∗ GEnd m c false T ∗ GEnd m c true T) -∗ WP c p Q)
          -∗ WP c (gatherCore c T p) Q) := by
  have hO : owed c (T + 7) = ((owed c (T + 8) + creditsDebt c (T + 7)) + sendDebt true c (T + 7) 0)
      + sendDebt false c (T + 7) 0 := by
    rw [owed_step c (T + 7) (by omega), sendsDebt, if_neg (by omega)]
    exact (add_assoc _ _ _).symm
  unfold GRing GSup gatherCore
  iintro ⟨#Hctx, HO, ⟨⟨Hf, Hpf, Hcf⟩, Hkf, Sf, Cf, Tf, Df⟩, ⟨⟨Ht, Hpt, Hct⟩, Hkt, St, Ct, Tt, Dt⟩⟩ Hk
  iapply (wp_creditWait m K c _ Q false (T + 6) (by omega)) $$ [HO Hkf Cf]
  · isplitr; · iexact Hctx
    isplitl [Cf]; · iexact Cf
    isplitl [HO]; · iexact HO
    iexact Hkf
  iintro ⟨HO, Hkf, Pf⟩
  iapply (wp_creditWait m K c _ Q true (T + 6) (by omega)) $$ [HO Hkt Ct]
  · isplitr; · iexact Hctx
    isplitl [Ct]; · iexact Ct
    isplitl [HO]; · iexact HO
    iexact Hkt
  iintro ⟨HO, Hkt, Pt⟩
  ihave Hkf := (pos_reached c (.credit false) (T + 6 + 1)) $$ Hkf
  ihave Hkt := (pos_reached c (.credit true) (T + 6 + 1)) $$ Hkt
  icases Hkf with ⟨Hkf, #Hrf⟩
  icases Hkt with ⟨Hkt, #Hrt⟩
  ihave HO := (show Owes c (owed c (T + 6 + 1)) ⊢ (Owes c (((owed c (T + 8) + creditsDebt c (T + 7)) + sendDebt true c (T + 7) 0)
      + sendDebt false c (T + 7) 0) : sProp 𝕄) from Entails.of_eq (congrArg (Owes c) hO)) $$ HO
  iapply (wp_startSlot m K c _ Q false T hT _) $$ [HO Hf Pf Hpf Sf]
  · isplitr; · iexact Hctx
    isplitr; · iexact Hrf
    isplitl [HO]; · iexact HO
    isplitl [Hf]; · iexact Hf
    isplitl [Pf]; · iexact Pf
    isplitl [Hpf]; · iexact Hpf
    iexact Sf
  iintro ⟨HO, Hf⟩
  iapply (wp_startSlot m K c _ Q true T hT _) $$ [HO Ht Pt Hpt St]
  · isplitr; · iexact Hctx
    isplitr; · iexact Hrt
    isplitl [HO]; · iexact HO
    isplitl [Ht]; · iexact Ht
    isplitl [Pt]; · iexact Pt
    isplitl [Hpt]; · iexact Hpt
    iexact St
  iintro ⟨HO, Ht⟩
  iapply (wp_turnSlot m K c _ Q false T hT) $$ [HO Hf]
  · isplitr; · iexact Hctx
    isplitl [HO]; · iexact HO
    iexact Hf
  iintro ⟨HO, Hf, Nf, Hpf, Rf⟩
  iapply (wp_turnSlot m K c _ Q true T hT) $$ [HO Ht]
  · isplitr; · iexact Hctx
    isplitl [HO]; · iexact HO
    iexact Ht
  iintro ⟨HO, Ht, Nt, Hpt, Rt⟩
  ihave Hcf := (cposs_split c false T) $$ Hcf
  icases Hcf with ⟨Hcf, Hqf⟩
  ihave Hct := (cposs_split c true T) $$ Hct
  icases Hct with ⟨Hct, Hqt⟩
  iapply (wp_startCopy m K c _ Q false (T + 1) (by omega)) $$ [Nf Df Hqf Tf]
  · isplitr; · iexact Hctx
    isplitl [Nf]; · iexact Nf
    isplitl [Df]; · iexact Df
    isplitl [Hqf]; · iexact Hqf
    iexact Tf
  iintro ⟨Nf, Cf⟩
  iapply (wp_startCopy m K c _ Q true (T + 1) (by omega)) $$ [Nt Dt Hqt Tt]
  · isplitr; · iexact Hctx
    isplitl [Nt]; · iexact Nt
    isplitl [Dt]; · iexact Dt
    isplitl [Hqt]; · iexact Hqt
    iexact Tt
  iintro ⟨Nt, Ct⟩
  iapply (wp_endCopy m K c _ Q false T (by omega) _ (above_rest c (T + 7) _ (by omega))) $$ [HO Hcf Hf]
  · isplitr; · iexact Hctx
    isplitl [HO]; · iexact HO
    isplitl [Hcf]; · iexact Hcf
    iexact Hf
  iintro ⟨HO, Hcf, Of, Df⟩
  iapply (wp_endCopy m K c _ Q true T (by omega) _ (above_rest c (T + 7) _ (by omega))) $$ [HO Hct Ht]
  · isplitr; · iexact Hctx
    isplitl [HO]; · iexact HO
    isplitl [Hct]; · iexact Hct
    iexact Ht
  iintro ⟨HO, Hct, Ot, Dt⟩
  iapply Hk
  isplitl [HO]; · iexact HO
  unfold GEnd GRing Copying
  isplitl [Nf Hpf Cf Hcf Hkf Df Of Rf]
  · isplitl [Nf Hpf Cf Hcf]
    · isplitl [Nf]; · iexact Nf
      isplitl [Hpf]; · iexact Hpf
      isplitl [Cf]; · iexact Cf
      iexact Hcf
    isplitl [Hkf]; · iexact Hkf
    isplitl [Df]; · iexact Df
    isplitl [Of]; · iexact Of
    iexact Rf
  · isplitl [Nt Hpt Ct Hct]
    · isplitl [Nt]; · iexact Nt
      isplitl [Hpt]; · iexact Hpt
      isplitl [Ct]; · iexact Ct
      iexact Hct
    isplitl [Hkt]; · iexact Hkt
    isplitl [Dt]; · iexact Dt
    isplitl [Ot]; · iexact Ot
    iexact Rt

/-! ## The loop -/

/-- The credit at the end of gather step `T`. -/
theorem wp_giveSlot (d : Bool) (T : ℕ) (hT : T < 6) (O : Debt) :
    iprop(ctx m K ∗ Owes c (O + creditDebt d c (T + 7)) ∗ Tok (src d c) (.credit d) (T + 7) ∗ GEnd m c d T)
      ⊢ iprop(((Owes c O ∗ GRing m c d (T + 1) ∗ Pos c (.credit d) (T + 7) ∗ Done m c d T) -∗ WP c p Q)
          -∗ WP c (creditSignal d c p) Q) := by
  unfold GEnd GRing
  iintro ⟨#Hctx, HO, Htok, ⟨⟨Hl, Hp, Hc⟩, Hk', Hd, Hs, Hr⟩⟩ Hk
  ihave Hp := (poss_reached c d 0 (T + 1 + 7)) $$ Hp
  icases Hp with ⟨Hp, Hr0⟩
  iapply (wp_creditSignal m K c p Q d (T + 7) (by omega) O) $$ [HO Htok Hs Hr Hr0]
  · isplitr; · iexact Hctx
    isplitl [HO]; · iexact HO
    isplitl [Htok]; · iexact Htok
    isplitl [Hs Hr0]
    · iapply (perm_slot c d (T + 7 + 1) (by omega))
      isplitl [Hs]
      · rw [show slotOf (T + 7 + 1 + 1) = slotOf (T + 1) from Fin.ext (by rw [slotOf_val, slotOf_val]; omega)]
        iexact Hs
      iexact Hr0
    iexact Hr
  iintro HO
  iapply Hk
  isplitl [HO]; · iexact HO
  isplitl [Hl Hp Hc]
  · isplitl [Hl]; · iexact Hl
    isplitl [Hp]; · iexact Hp
    iexact Hc
  isplitl [Hk']; · iexact Hk'
  iexact Hd

/-- What a gather step that is not the last uses up. -/
def GStepSup (d : Bool) (T : ℕ) : sProp 𝕄 := iprop(GSup c d T ∗ Tok (src d c) (.credit d) (T + 7))

theorem wp_gatherStep (T : ℕ) (hT : T < 6) :
    iprop(ctx m K ∗ Owes c (owed c (T + 7)) ∗ (GRing m c false T ∗ Pos c (.credit false) (T + 6))
        ∗ (GRing m c true T ∗ Pos c (.credit true) (T + 6)) ∗ GStepSup c false T ∗ GStepSup c true T)
      ⊢ iprop(((Owes c (owed c (T + 8)) ∗ (GRing m c false (T + 1) ∗ Pos c (.credit false) (T + 7))
            ∗ (GRing m c true (T + 1) ∗ Pos c (.credit true) (T + 7)) ∗ Done m c false T ∗ Done m c true T) -∗ WP c p Q)
          -∗ WP c (gatherStep c T p) Q) := by
  have hC : owed c (T + 8) + creditsDebt c (T + 7) = (owed c (T + 8) + creditDebt true c (T + 7)) + creditDebt false c (T + 7) := by
    rw [creditsDebt, if_pos (by omega), add_assoc]
  unfold GStepSup gatherStep
  iintro ⟨#Hctx, HO, ⟨Hf, Hkf⟩, ⟨Ht, Hkt⟩, ⟨Sf, Tf⟩, ⟨St, Tt⟩⟩ Hk
  iapply (wp_gatherCore m K c _ Q T (by omega)) $$ [HO Hf Hkf Ht Hkt Sf St]
  · isplitr; · iexact Hctx
    isplitl [HO]; · iexact HO
    isplitl [Hf Hkf Sf]
    · isplitl [Hf]; · iexact Hf
      isplitl [Hkf]; · iexact Hkf
      iexact Sf
    · isplitl [Ht]; · iexact Ht
      isplitl [Hkt]; · iexact Hkt
      iexact St
  iintro ⟨HO, Hf, Ht⟩
  ihave HO := (Entails.of_eq (congrArg (Owes c) hC)) $$ HO
  iapply (wp_giveSlot m K c _ Q false T hT _) $$ [HO Tf Hf]
  · isplitr; · iexact Hctx
    isplitl [HO]; · iexact HO
    isplitl [Tf]; · iexact Tf
    iexact Hf
  iintro ⟨HO, Hf, Hkf, Df⟩
  iapply (wp_giveSlot m K c _ Q true T hT _) $$ [HO Tt Ht]
  · isplitr; · iexact Hctx
    isplitl [HO]; · iexact HO
    isplitl [Tt]; · iexact Tt
    iexact Ht
  iintro ⟨HO, Ht, Hkt, Dt⟩
  iapply Hk
  isplitl [HO]; · iexact HO
  isplitl [Hf Hkf]
  · isplitl [Hf]; · iexact Hf
    iexact Hkf
  isplitl [Ht Hkt]
  · isplitl [Ht]; · iexact Ht
    iexact Hkt
  isplitl [Df]; · iexact Df
  iexact Dt

theorem wp_gatherLoop (n T : ℕ) (hT : T + n ≤ 6) :
    iprop(ctx m K ∗ Owes c (owed c (T + 7)) ∗ (GRing m c false T ∗ Pos c (.credit false) (T + 6))
        ∗ (GRing m c true T ∗ Pos c (.credit true) (T + 6)) ∗ seq (GStepSup c false) T n ∗ seq (GStepSup c true) T n)
      ⊢ iprop(((Owes c (owed c (T + n + 7)) ∗ (GRing m c false (T + n) ∗ Pos c (.credit false) (T + n + 6))
            ∗ (GRing m c true (T + n) ∗ Pos c (.credit true) (T + n + 6)) ∗ seq (Done m c false) T n ∗ seq (Done m c true) T n)
            -∗ WP c p Q)
          -∗ WP c (loop (gatherStep c) T n p) Q) := by
  induction n generalizing T with
  | zero =>
    unfold seq
    iintro ⟨-, HO, Hf, Ht, -, -⟩ Hk
    iapply Hk
    isplitl [HO]; · iexact HO
    isplitl [Hf]; · iexact Hf
    isplitl [Ht]; · iexact Ht
    isplitl []
    · iempintro
    · iempintro
  | succ n ih =>
    unfold seq loop
    iintro ⟨#Hctx, HO, Hf, Ht, ⟨Sf, Sf'⟩, ⟨St, St'⟩⟩ Hk
    iapply (wp_gatherStep m K c _ Q T (by omega)) $$ [HO Hf Ht Sf St]
    · isplitr; · iexact Hctx
      isplitl [HO]; · iexact HO
      isplitl [Hf]; · iexact Hf
      isplitl [Ht]; · iexact Ht
      isplitl [Sf]; · iexact Sf
      iexact St
    iintro ⟨HO, ⟨Hf, Hkf⟩, ⟨Ht, Hkt⟩, Df, Dt⟩
    iapply (ih (T + 1) (by omega)) $$ [HO Hf Hkf Ht Hkt Sf' St']
    · isplitr; · iexact Hctx
      isplitl [HO]; · rw [show T + 1 + 7 = T + 8 by omega]; iexact HO
      isplitl [Hf Hkf]
      · isplitl [Hf]; · iexact Hf
        rw [show T + 1 + 6 = T + 7 by omega]; iexact Hkf
      isplitl [Ht Hkt]
      · isplitl [Ht]; · iexact Ht
        rw [show T + 1 + 6 = T + 7 by omega]; iexact Hkt
      isplitl [Sf']; · iexact Sf'
      iexact St'
    rw [show T + 1 + n = T + (n + 1) by omega]
    iintro ⟨HO, Hf, Ht, Ef, Et⟩
    iapply Hk
    isplitl [HO]; · iexact HO
    isplitl [Hf]; · iexact Hf
    isplitl [Ht]; · iexact Ht
    isplitl [Df Ef]
    · isplitl [Df]; · iexact Df
      iexact Ef
    · isplitl [Dt]; · iexact Dt
      iexact Et

end Cert.KernelIdeal.Ring
-- ==== Proof.Body.lean ====
module

public import proofs.«01_k».proof.Proof.Gather

@[expose] public section

noncomputable section

/-! # The kernel of one device

The start, the two phases and the end, put together. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Kd → ℕ)
variable (c : Dev nD)

variable (p : P F) (Q : PUnit → sProp (MT nD τ sig ℕ (Elt F) ℕ UU ℕ))

/-! ## The two scales -/

theorem wp_scalar (M : Memref sig .tc .smem S1 .f32) (X : M.view.ty.Contents (Elt F)) (hr) (g : Elt F .f32 → P F) :
    owns (c : Thread nD τ) M fullShare (M.view.read (Elt F) X)
      ⊢ iprop((owns (c : Thread nD τ) M fullShare (M.view.read (Elt F) X)
            -∗ WP c (g (((M.access (Rect.unit (s := S1) ![0] S1.size inb_S1_S1_0)).read (Elt F) X)
              (Shape.Idx.first (numel1_S1.symm ▸ Nat.one_pos)))) Q)
          -∗ WP c ((smemLoad M (Rect.unit (s := S1) ![0] S1.size inb_S1_S1_0) numel1_S1 hr).bind g) Q) :=
  wp_loadPart c Q M (Rect.unit (s := S1) ![0] S1.size inb_S1_S1_0).toLoadRect _ X
    fun f => g (f (Shape.Idx.first (numel1_S1.symm ▸ Nat.one_pos)))

theorem wp_scales (g : Elt F .f32 → Elt F .f32 → P F) :
    ins m c ⊢ iprop((ins m c -∗ WP c (g (sxAt m c) (swAt m c)) Q)
      -∗ WP c ((smemLoad sxIn (Rect.unit (s := S1) ![0] S1.size inb_S1_S1_0) numel1_S1 rfl).bind fun a =>
        (smemLoad swIn (Rect.unit (s := S1) ![0] S1.size inb_S1_S1_0) numel1_S1 rfl).bind fun b => g a b) Q) := by
  unfold ins sxAt swAt
  iintro ⟨Hx, Hw, Ha, Hb⟩ Hk
  iapply (wp_scalar c Q sxIn (sxstg m c) rfl _) $$ Ha
  iintro Ha
  iapply (wp_scalar c Q swIn (swstg m c) rfl _) $$ Hb
  iintro Hb
  iapply Hk
  isplitl [Hx]; · iexact Hx
  isplitl [Hw]; · iexact Hw
  isplitl [Ha]; · iexact Ha
  iexact Hb

/-! ## The start -/

/-- The first product goes into slot 0. -/
theorem wp_initSlot (d : Bool) :
    iprop(ins m c ∗ slotAny c d 0)
      ⊢ iprop(((ins m c ∗ owns (c : Thread nD τ) (half d (slotOf 0) 0) fullShare (sumAt m d 0 c 0)
            ∗ owns (c : Thread nD τ) (half d (slotOf 0) 1) fullShare (sumAt m d 0 c 1)) -∗ WP c p Q)
          -∗ WP c (initSlot d c p) Q) := by
  unfold ins initSlot slotAny
  iintro ⟨⟨Hx, Hr⟩, ⟨%X, Hs⟩⟩ Hk
  iapply (wp_loadPart c Q xIn _ _ (xstg m c) _) $$ Hx
  iintro Hx
  iapply (wp_loadW m c Q _) $$ [Hx Hr]
  · unfold ins
    isplitl [Hx]; · iexact Hx
    iexact Hr
  iintro Hin
  ihave Hs := (show (owns (c : Thread nD τ) (full d 0) fullShare X : sProp 𝕄)
    ⊢ owns (c : Thread nD τ) (full d (slotOf 0)) fullShare X from .rfl) $$ Hs
  iapply (wp_loadSlot c Q d 0 fullShare X _) $$ Hs
  iintro Hs
  iapply (wp_storeSlot c p Q d 0 X _) $$ Hs
  iintro Hs
  ihave Hs := (slot_split c d (slotOf 0) fullShare _) $$ Hs
  iapply Hk
  isplitl [Hin]; · unfold ins; iexact Hin
  iexact Hs

/-- What a device holds of a ring when it starts. -/
def RingIn (d : Bool) : sProp 𝕄 :=
  iprop(slotAny c d 0 ∗ (Poss c d 0 0 ∗ Poss c d 1 0) ∗ Pos c (.credit d) 0 ∗ CPoss c d 0)

/-- What the whole of a ring uses up. -/
def RingSup (d : Bool) : sProp 𝕄 :=
  iprop(((Sup c d 0 0 ∗ Sup c d 1 0) ∗ Tok (src d c) (.credit d) 0) ∗ seq (StepSup c d) 1 6
    ∗ (Tok c (.copy d (slotOf 1)) 0 ∗ Place c d 0) ∗ seq (GStepSup c d) 0 6 ∗ GSup c d 6)

/-- What a device holds of a ring when it has ended. -/
def RingOut (d : Bool) : sProp 𝕄 :=
  iprop((slotAny c d 0 ∗ slotAny c d 1) ∗ (Poss c d 0 14 ∗ Poss c d 1 7) ∗ Pos c (.credit d) 13 ∗ CPoss c d 8
    ∗ seq (Done m c d) 0 8)

/-- The slot a neighbour may write first. -/
theorem perm_start (d : Bool) :
    iprop(ctx m K ∗ slotAny c d 1) ⊢ iprop(perm d (src d c) 0) := by
  iintro ⟨#Hctx, Hs⟩
  ihave Hs := (slotAny_split c d 1) $$ Hs
  iapply (perm_halves c d 0 (by omega))
  isplitl [Hs]; · iexact Hs
  isplitr; · iapply (ctx_reached m K c (.recv d 1 0)); iexact Hctx
  iapply (ctx_reached m K c (.recv d 1 1)); iexact Hctx

/-- The debts of a device at the start. -/
def owed₀ : Debt := (owed c 0 + tallyAt (cell (tgt false c) .bar) 1 1) + tallyAt (cell (tgt true c) .bar) 1 1

theorem perm_bar (d : Bool) : iprop(ctx m K ∗ slotAny c (!d) 1) ⊢ iprop(perm (!d) (tgt d c) 0) := by
  refine (perm_start m K c (!d)).trans (Entails.of_eq ?_)
  unfold src; rw [Bool.not_not]

theorem wp_enter :
    iprop(ctx m K ∗ Owes c (owed₀ c) ∗ (cred (tallyAt (cell c .bar) 1 2) ∗ Pos c .bar 0)
        ∗ (dutyTok ER (cell (tgt true c) .bar) 0 false ∗ slotAny c false 1)
        ∗ (dutyTok ER (cell (tgt false c) .bar) 0 true ∗ slotAny c true 1))
      ⊢ iprop(((Owes c (owed c 0) ∗ Pos c .bar 1 ∗ perm false c 0 ∗ perm true c 0) -∗ WP c p Q)
          -∗ WP c (barSignal true c <| barSignal false c <| barWait p) Q) := by
  unfold owed₀
  iintro ⟨#Hctx, HO, ⟨Hc, Hp⟩, ⟨Tf, Sf⟩, ⟨Tt, St⟩⟩ Hk
  iapply (wp_barSignal m K c _ Q true _) $$ [HO Tf Sf]
  · isplitr; · iexact Hctx
    isplitl [HO]; · iexact HO
    isplitl [Tf]; · iexact Tf
    iapply (perm_bar m K c true)
    isplitr; · iexact Hctx
    iexact Sf
  iintro HO
  iapply (wp_barSignal m K c _ Q false _) $$ [HO Tt St]
  · isplitr; · iexact Hctx
    isplitl [HO]; · iexact HO
    isplitl [Tt]; · iexact Tt
    iapply (perm_bar m K c false)
    isplitr; · iexact Hctx
    iexact St
  iintro HO
  iapply (wp_barWait m K c _ Q (owed c 0) (above_owed c 0 1 (by omega))) $$ [HO Hc Hp]
  · isplitr; · iexact Hctx
    isplitl [Hc]; · iexact Hc
    isplitl [HO]; · iexact HO
    iexact Hp
  iexact Hk

/-! ## The reduce phase -/

/-- What a ring takes into the reduce phase. -/
def RedIn (d : Bool) : sProp 𝕄 :=
  iprop(slotAny c d 0 ∗ (Poss c d 0 0 ∗ Poss c d 1 0) ∗ Pos c (.credit d) 0 ∗ perm d c 0
    ∗ ((Sup c d 0 0 ∗ Sup c d 1 0) ∗ Tok (src d c) (.credit d) 0) ∗ seq (StepSup c d) 1 6)

/-- The rest, once slot 0 is filled. -/
def RedMid (d : Bool) : sProp 𝕄 :=
  iprop(RingS m c d 0 ∗ seq (StepSup c d) 1 6)

theorem wp_initRing (d : Bool) :
    iprop(ins m c ∗ RedIn c d) ⊢ iprop(((ins m c ∗ RedMid m c d) -∗ WP c p Q) -∗ WP c (initSlot d c p) Q) := by
  unfold RedIn RedMid
  iintro ⟨Hin, Hs, Hp, Hc, Hperm, ⟨Hsup, Htok⟩, Hseq⟩ Hk
  iapply (wp_initSlot m c p Q d) $$ [Hin Hs]
  · isplitl [Hin]; · iexact Hin
    iexact Hs
  iintro ⟨Hin, Hs⟩
  iapply Hk
  isplitl [Hin]; · iexact Hin
  isplitr [Hseq]
  · iapply (ring_start m c d 0 (by omega))
    unfold RingE
    isplitl [Hs Hp]
    · isplitl [Hs]; · iexact Hs
      iexact Hp
    isplitl [Hperm]; · iexact Hperm
    isplitl [Hsup]; · iexact Hsup
    isplitl [Hc]; · iexact Hc
    iexact Htok
  iexact Hseq

theorem wp_reduce :
    iprop(ctx m K ∗ ins m c ∗ Owes c (owed c 0) ∗ RedIn c false ∗ RedIn c true)
      ⊢ iprop(((ins m c ∗ Owes c (owed c 7) ∗ (RingE m c false 7 ∗ Pos c (.credit false) 6)
            ∗ (RingE m c true 7 ∗ Pos c (.credit true) 6)) -∗ WP c p Q)
          -∗ WP c (initSlot false c <| initSlot true c <| reduceCore c 0 <| loop (reduceStep c) 1 6 p) Q) := by
  iintro ⟨#Hctx, Hin, HO, Hf, Ht⟩ Hk
  iapply (wp_initRing m c _ Q false) $$ [Hin Hf]
  · isplitl [Hin]; · iexact Hin
    iexact Hf
  unfold RedMid
  iintro ⟨Hin, Hf, Sf⟩
  iapply (wp_initRing m c _ Q true) $$ [Hin Ht]
  · isplitl [Hin]; · iexact Hin
    iexact Ht
  unfold RedMid
  iintro ⟨Hin, Ht, St⟩
  iapply (wp_reduceCore m K c _ Q 0 (by omega)) $$ [Hin HO Hf Ht]
  · isplitr; · iexact Hctx
    isplitl [Hin]; · iexact Hin
    isplitl [HO]; · iexact HO
    isplitl [Hf]; · iexact Hf
    iexact Ht
  iintro ⟨Hin, HO, Hf, Ht⟩
  iapply (wp_reduceLoop m K c p Q 6 0 (by omega)) $$ [Hin HO Hf Ht Sf St]
  · isplitr; · iexact Hctx
    isplitl [Hin]; · iexact Hin
    isplitl [HO]; · iexact HO
    isplitl [Hf]; · iexact Hf
    isplitl [Ht]; · iexact Ht
    isplitl [Sf]; · iexact Sf
    iexact St
  iexact Hk

/-! ## Between the phases -/

theorem wp_finishSlot (d : Bool) :
    iprop(owns (c : Thread nD τ) (half d (slotOf 7) 0) fullShare (sumAt m d 7 c 0)
        ∗ owns (c : Thread nD τ) (half d (slotOf 7) 1) fullShare (sumAt m d 7 c 1))
      ⊢ iprop((owns (c : Thread nD τ) (full d (slotOf 1)) fullShare (blkAt m d 0 c) -∗ WP c p Q)
          -∗ WP c (finishSlot d (sxAt m c) (swAt m c) p) Q) := by
  unfold finishSlot
  iintro Hs Hk
  ihave Hs := (slot_join c d (slotOf 7) fullShare (sumAt m d 7 c)) $$ Hs
  iapply (wp_loadSlot c Q d 7 fullShare _ _) $$ Hs
  iintro Hs
  iapply (wp_loadSlot c Q d 7 fullShare _ _) $$ Hs
  iintro Hs
  iapply (wp_storeSlot c p Q d 7 _ _) $$ Hs
  iintro Hs
  iapply Hk
  iexact Hs

/-- A ring between the phases. -/
def MidIn (d : Bool) : sProp 𝕄 :=
  iprop((owns (c : Thread nD τ) (half d (slotOf 7) 0) fullShare (sumAt m d 7 c 0)
      ∗ owns (c : Thread nD τ) (half d (slotOf 7) 1) fullShare (sumAt m d 7 c 1))
    ∗ Poss c d 0 7 ∗ CPoss c d 0 ∗ Tok c (.copy d (slotOf 1)) 0 ∗ Place c d 0)

theorem wp_epilogue :
    iprop(ctx m K ∗ ins m c ∗ MidIn m c false ∗ MidIn m c true)
      ⊢ iprop(((ins m c ∗ GRing m c false 0 ∗ GRing m c true 0) -∗ WP c p Q) -∗ WP c (epilogue c p) Q) := by
  unfold MidIn epilogue
  iintro ⟨#Hctx, Hin, ⟨Sf, Pf, Cf, Tf, Df⟩, ⟨St, Pt, Ct, Tt, Dt⟩⟩ Hk
  iapply (wp_scales m c Q _) $$ Hin
  iintro Hin
  iapply (wp_finishSlot m c _ Q false) $$ Sf
  iintro Sf
  iapply (wp_finishSlot m c _ Q true) $$ St
  iintro St
  iapply (wp_startCopy m K c _ Q false 0 (by omega)) $$ [Sf Df Tf]
  · isplitr; · iexact Hctx
    isplitl [Sf]; · iexact Sf
    isplitl [Df]; · iexact Df
    isplitr; · iapply (ctx_reached m K c (.copy false (slotOf 1))); iexact Hctx
    iexact Tf
  iintro ⟨Sf, Xf⟩
  iapply (wp_startCopy m K c _ Q true 0 (by omega)) $$ [St Dt Tt]
  · isplitr; · iexact Hctx
    isplitl [St]; · iexact St
    isplitl [Dt]; · iexact Dt
    isplitr; · iapply (ctx_reached m K c (.copy true (slotOf 1))); iexact Hctx
    iexact Tt
  iintro ⟨St, Xt⟩
  iapply Hk
  isplitl [Hin]; · iexact Hin
  unfold GRing Copying
  isplitl [Sf Pf Cf Xf]
  · isplitl [Sf]; · iexact Sf
    isplitl [Pf]; · iexact Pf
    isplitl [Xf]; · iexact Xf
    iexact Cf
  · isplitl [St]; · iexact St
    isplitl [Pt]; · iexact Pt
    isplitl [Xt]; · iexact Xt
    iexact Ct

/-! ## The gather phase -/

/-- What is left of a ring when the last gather step is over. -/
def LastOut (d : Bool) : sProp 𝕄 :=
  iprop((slotAny c d 0 ∗ slotAny c d 1) ∗ Poss c d 0 14 ∗ Pos c (.credit d) 13 ∗ CPoss c d 8 ∗ Done m c d 6 ∗ Done m c d 7)

theorem wp_lastCopy (d : Bool) :
    iprop(ctx m K ∗ Owes c 0 ∗ GEnd m c d 6)
      ⊢ iprop(((Owes c 0 ∗ LastOut m c d) -∗ WP c p Q) -∗ WP c (copied d c 7 p) Q) := by
  unfold GEnd GRing LastOut
  iintro ⟨#Hctx, HO, ⟨Hl, Hp, Hc⟩, Hk', Hd, Hs, -⟩ Hk
  iapply (wp_endCopy m K c p Q d 7 (by omega) 0 (above_zero _)) $$ [HO Hl Hc]
  · isplitr; · iexact Hctx
    isplitl [HO]; · iexact HO
    isplitl [Hc]; · iexact Hc
    iexact Hl
  iintro ⟨HO, Hc, Hs', Hd'⟩
  iapply Hk
  isplitl [HO]; · iexact HO
  isplitl [Hs Hs']
  · isplitl [Hs']; · iexact Hs'
    iexact Hs
  isplitl [Hp]; · iexact Hp
  isplitl [Hk']; · iexact Hk'
  isplitl [Hc]; · iexact Hc
  isplitl [Hd]; · iexact Hd
  iexact Hd'

/-- What a ring takes into the gather phase, -/
def GatIn (d : Bool) : sProp 𝕄 :=
  iprop(GRing m c d 0 ∗ Pos c (.credit d) 6 ∗ seq (GStepSup c d) 0 6 ∗ GSup c d 6)

/-- and what it leaves. -/
def GatOut (d : Bool) : sProp 𝕄 := iprop(LastOut m c d ∗ seq (Done m c d) 0 6)

theorem wp_gather :
    iprop(ctx m K ∗ Owes c (owed c 7) ∗ GatIn m c false ∗ GatIn m c true)
      ⊢ iprop(((Owes c 0 ∗ GatOut m c false ∗ GatOut m c true) -∗ WP c p Q)
          -∗ WP c (loop (gatherStep c) 0 6 <| gatherCore c 6 <| copied false c 7 <| copied true c 7 p) Q) := by
  unfold GatIn GatOut
  iintro ⟨#Hctx, HO, ⟨Rf, Pf, Sf, Lf⟩, ⟨Rt, Pt, St, Lt⟩⟩ Hk
  iapply (wp_gatherLoop m K c _ Q 6 0 (by omega)) $$ [HO Rf Pf Sf Rt Pt St]
  · isplitr; · iexact Hctx
    isplitl [HO]; · iexact HO
    isplitl [Rf Pf]
    · isplitl [Rf]; · iexact Rf
      iexact Pf
    isplitl [Rt Pt]
    · isplitl [Rt]; · iexact Rt
      iexact Pt
    isplitl [Sf]; · iexact Sf
    iexact St
  iintro ⟨HO, ⟨Rf, Pf⟩, ⟨Rt, Pt⟩, Df, Dt⟩
  iapply (wp_gatherCore m K c _ Q 6 (by omega)) $$ [HO Rf Pf Lf Rt Pt Lt]
  · isplitr; · iexact Hctx
    isplitl [HO]; · iexact HO
    isplitl [Rf Pf Lf]
    · isplitl [Rf]; · iexact Rf
      isplitl [Pf]; · iexact Pf
      iexact Lf
    · isplitl [Rt]; · iexact Rt
      isplitl [Pt]; · iexact Pt
      iexact Lt
  iintro ⟨HO, Rf, Rt⟩
  ihave HO := (show Owes c (owed c (6 + 8) + creditsDebt c (6 + 7)) ⊢ (Owes c 0 : sProp 𝕄) from
    Entails.of_eq (congrArg (Owes c) (by rw [creditsDebt, if_neg (by omega), add_zero]; exact owed_last c))) $$ HO
  iapply (wp_lastCopy m K c _ Q false) $$ [HO Rf]
  · isplitr; · iexact Hctx
    isplitl [HO]; · iexact HO
    iexact Rf
  iintro ⟨HO, Rf⟩
  iapply (wp_lastCopy m K c _ Q true) $$ [HO Rt]
  · isplitr; · iexact Hctx
    isplitl [HO]; · iexact HO
    iexact Rt
  iintro ⟨HO, Rt⟩
  iapply Hk
  isplitl [HO]; · iexact HO
  isplitl [Rf Df]
  · isplitl [Rf]; · iexact Rf
    iexact Df
  · isplitl [Rt]; · iexact Rt
    iexact Dt

/-! ## All of it -/

theorem wp_end : Q ⟨⟩ ⊢ WP c (.ret ⟨⟩) Q := by
  show Q ⟨⟩ ⊢ wp frame (wpE (defs₀ (F := F)) 𝒱₀ (c : Thread nD τ) none) Set.univ (.ret ⟨⟩) Q
  rw [wp_ret]
  iintro H
  imodintro
  iexact H

theorem ring_out (d : Bool) :
    iprop(GatOut m c d ∗ Poss c d 1 7) ⊢ RingOut m c d := by
  unfold GatOut LastOut RingOut
  simp only [seq]
  iintro ⟨⟨⟨Hs, Hp, Hk, Hc, D6, D7⟩, D0, D1, D2, D3, D4, D5, -⟩, Hp'⟩
  isplitl [Hs]; · iexact Hs
  isplitl [Hp Hp']
  · isplitl [Hp]; · iexact Hp
    iexact Hp'
  isplitl [Hk]; · iexact Hk
  isplitl [Hc]; · iexact Hc
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  iempintro

theorem wp_body :
    iprop(ctx m K ∗ ins m c ∗ Owes c (owed₀ c) ∗ (cred (tallyAt (cell c .bar) 1 2) ∗ Pos c .bar 0)
        ∗ (dutyTok ER (cell (tgt true c) .bar) 0 false ∗ slotAny c false 1)
        ∗ (dutyTok ER (cell (tgt false c) .bar) 0 true ∗ slotAny c true 1)
        ∗ (RingIn c false ∗ RingSup c false) ∗ (RingIn c true ∗ RingSup c true))
      ⊢ iprop(((ins m c ∗ Owes c 0 ∗ Pos c .bar 1 ∗ RingOut m c false ∗ RingOut m c true) -∗ Q ⟨⟩) -∗ WP c body Q) := by
  unfold RingIn RingSup body
  iintro ⟨#Hctx, Hin, HO, Hbar, Hf, Ht, ⟨⟨If, Pf, Kf, Cf⟩, Uf, Vf, ⟨Tf, Df⟩, Gf, Lf⟩, ⟨⟨It, Pt, Kt, Ct⟩, Ut, Vt, ⟨Tt, Dt⟩, Gt, Lt⟩⟩ Hk
  simp only [wp_deviceId]
  iapply (wp_enter m K c _ Q) $$ [HO Hbar Hf Ht]
  · isplitr; · iexact Hctx
    isplitl [HO]; · iexact HO
    isplitl [Hbar]; · iexact Hbar
    isplitl [Hf]; · iexact Hf
    iexact Ht
  iintro ⟨HO, Hbar, Af, At⟩
  iapply (wp_reduce m K c _ Q) $$ [Hin HO If Pf Kf Af Uf Vf It Pt Kt At Ut Vt]
  · unfold RedIn
    isplitr; · iexact Hctx
    isplitl [Hin]; · iexact Hin
    isplitl [HO]; · iexact HO
    isplitl [If Pf Kf Af Uf Vf]
    · isplitl [If]; · iexact If
      isplitl [Pf]; · iexact Pf
      isplitl [Kf]; · iexact Kf
      isplitl [Af]; · iexact Af
      isplitl [Uf]; · iexact Uf
      iexact Vf
    · isplitl [It]; · iexact It
      isplitl [Pt]; · iexact Pt
      isplitl [Kt]; · iexact Kt
      isplitl [At]; · iexact At
      isplitl [Ut]; · iexact Ut
      iexact Vt
  unfold RingE
  iintro ⟨Hin, HO, ⟨⟨Sf, Pf, Pf'⟩, Kf⟩, ⟨⟨St, Pt, Pt'⟩, Kt⟩⟩
  iapply (wp_epilogue m K c _ Q) $$ [Hin Sf Pf Cf Tf Df St Pt Ct Tt Dt]
  · unfold MidIn
    isplitr; · iexact Hctx
    isplitl [Hin]; · iexact Hin
    isplitl [Sf Pf Cf Tf Df]
    · isplitl [Sf]; · iexact Sf
      isplitl [Pf]; · iexact Pf
      isplitl [Cf]; · iexact Cf
      isplitl [Tf]; · iexact Tf
      iexact Df
    · isplitl [St]; · iexact St
      isplitl [Pt]; · iexact Pt
      isplitl [Ct]; · iexact Ct
      isplitl [Tt]; · iexact Tt
      iexact Dt
  iintro ⟨Hin, Rf, Rt⟩
  iapply (wp_gather m K c _ Q) $$ [HO Rf Kf Gf Lf Rt Kt Gt Lt]
  · unfold GatIn
    isplitr; · iexact Hctx
    isplitl [HO]; · iexact HO
    isplitl [Rf Kf Gf Lf]
    · isplitl [Rf]; · iexact Rf
      isplitl [Kf]; · iexact Kf
      isplitl [Gf]; · iexact Gf
      iexact Lf
    · isplitl [Rt]; · iexact Rt
      isplitl [Kt]; · iexact Kt
      isplitl [Gt]; · iexact Gt
      iexact Lt
  iintro ⟨HO, Of, Ot⟩
  iapply (wp_end c Q)
  iapply Hk
  isplitl [Hin]; · iexact Hin
  isplitl [HO]; · iexact HO
  isplitl [Hbar]; · iexact Hbar
  isplitl [Of Pf']
  · iapply (ring_out m c false)
    isplitl [Of]; · iexact Of
    iexact Pf'
  · iapply (ring_out m c true)
    isplitl [Ot]; · iexact Ot
    iexact Pt'

end Cert.KernelIdeal.Ring
-- ==== Proof.Supply.lean ====
module

public import proofs.«01_k».proof.Proof.Body

@[expose] public section

noncomputable section

/-! # What the launch deals out

The right to signal each round of each semaphore, and the units each device waits for, dealt to the device that uses
them and sorted by step. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Kd → ℕ)
variable (c : Dev nD)

/-! ## Sequences -/

section Seq

variable {f g : ℕ → sProp (MT nD τ sig ℕ (Elt F) ℕ UU ℕ)}

theorem seq_mono (a n : ℕ) (h : ∀ i, a ≤ i → i < a + n → f i ⊢ g i) : seq f a n ⊢ seq g a n := by
  induction n generalizing a with
  | zero => exact .rfl
  | succ n ih =>
    unfold seq
    exact BIClass.sep_mono (h a (by omega) (by omega)) (ih (a + 1) fun i h1 h2 => h i (by omega) (by omega))

theorem seq_unzip (a n : ℕ) : seq (fun i => iprop(f i ∗ g i)) a n ⊢ iprop(seq f a n ∗ seq g a n) := by
  induction n generalizing a with
  | zero =>
    unfold seq
    iintro -
    isplitl []
    · iempintro
    · iempintro
  | succ n ih =>
    unfold seq
    iintro ⟨⟨Hf, Hg⟩, H⟩
    ihave H := (ih (a + 1)) $$ H
    icases H with ⟨Hf', Hg'⟩
    isplitl [Hf Hf']
    · isplitl [Hf]; · iexact Hf
      iexact Hf'
    · isplitl [Hg]; · iexact Hg
      iexact Hg'

theorem seq_zip (a n : ℕ) : iprop(seq f a n ∗ seq g a n) ⊢ seq (fun i => iprop(f i ∗ g i)) a n := by
  induction n generalizing a with
  | zero =>
    unfold seq
    iintro -
    iempintro
  | succ n ih =>
    unfold seq
    iintro ⟨⟨Hf, Hf'⟩, ⟨Hg, Hg'⟩⟩
    isplitl [Hf Hg]
    · isplitl [Hf]; · iexact Hf
      iexact Hg
    · iapply (ih (a + 1))
      isplitl [Hf']; · iexact Hf'
      iexact Hg'

theorem seq_split (a n k : ℕ) : seq f a (n + k) ⊢ iprop(seq f a n ∗ seq f (a + n) k) := by
  induction n generalizing a with
  | zero =>
    rw [Nat.zero_add]
    iintro H
    isplitl []
    · unfold seq; iempintro
    · iexact H
  | succ n ih =>
    rw [show n + 1 + k = (n + k) + 1 by omega, show a + (n + 1) = (a + 1) + n by omega]
    show iprop(f a ∗ seq f (a + 1) (n + k)) ⊢ iprop((f a ∗ seq f (a + 1) n) ∗ seq f (a + 1 + n) k)
    iintro ⟨H, H'⟩
    ihave H' := (ih (a + 1)) $$ H'
    icases H' with ⟨H1, H2⟩
    isplitl [H H1]
    · isplitl [H]; · iexact H
      iexact H1
    · iexact H2

theorem seq_one (a : ℕ) : seq f a 1 ⊢ f a := by
  unfold seq
  iintro ⟨H, -⟩
  iexact H

theorem seq_first (a n : ℕ) : seq f a (n + 1) ⊢ iprop(f a ∗ seq f (a + 1) n) := .rfl

/-- The same things under other numbers. -/
theorem seq_shift (a b n : ℕ) (h : ∀ i, f (b + i) ⊢ g (a + i)) : seq f b n ⊢ seq g a n := by
  induction n generalizing a b with
  | zero => exact .rfl
  | succ n ih =>
    unfold seq
    refine BIClass.sep_mono (h 0) (ih (a + 1) (b + 1) fun i => ?_)
    rw [show b + 1 + i = b + (i + 1) by omega, show a + 1 + i = a + (i + 1) by omega]
    exact h (i + 1)

theorem seq_of_fin : bigSep Finset.univ (fun j : Fin 14 => f j.val) ⊢ seq f 0 14 := by
  rw [bigSep_univ_eq_bigSepL [0, 1, 2, 3, 4, 5, 6, 7, 8, 9, 10, 11, 12, 13] (by decide) (by decide)]
  simp only [bigSepL_cons_cons, bigSepL_singleton, seq]
  show iprop(f 0 ∗ f 1 ∗ f 2 ∗ f 3 ∗ f 4 ∗ f 5 ∗ f 6 ∗ f 7 ∗ f 8 ∗ f 9 ∗ f 10 ∗ f 11 ∗ f 12 ∗ f 13)
    ⊢ iprop(f 0 ∗ f 1 ∗ f 2 ∗ f 3 ∗ f 4 ∗ f 5 ∗ f 6 ∗ f 7 ∗ f 8 ∗ f 9 ∗ f 10 ∗ f 11 ∗ f 12 ∗ f 13 ∗ emp)
  iintro ⟨H0, H1, H2, H3, H4, H5, H6, H7, H8, H9, HA, HB, HC, HD⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HC]; · iexact HC
  isplitl [HD]; · iexact HD
  iempintro

theorem seq_of_fin8 : bigSep Finset.univ (fun j : Fin 8 => f j.val) ⊢ seq f 0 8 := by
  rw [bigSep_univ_eq_bigSepL [0, 1, 2, 3, 4, 5, 6, 7] (by decide) (by decide)]
  simp only [bigSepL_cons_cons, bigSepL_singleton, seq]
  show iprop(f 0 ∗ f 1 ∗ f 2 ∗ f 3 ∗ f 4 ∗ f 5 ∗ f 6 ∗ f 7) ⊢ iprop(f 0 ∗ f 1 ∗ f 2 ∗ f 3 ∗ f 4 ∗ f 5 ∗ f 6 ∗ f 7 ∗ emp)
  iintro ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

theorem fin8_of_seq : seq f 0 8 ⊢ bigSep Finset.univ (fun j : Fin 8 => f j.val) := by
  rw [bigSep_univ_eq_bigSepL [0, 1, 2, 3, 4, 5, 6, 7] (by decide) (by decide)]
  simp only [bigSepL_cons_cons, bigSepL_singleton, seq]
  show iprop(f 0 ∗ f 1 ∗ f 2 ∗ f 3 ∗ f 4 ∗ f 5 ∗ f 6 ∗ f 7 ∗ emp) ⊢ iprop(f 0 ∗ f 1 ∗ f 2 ∗ f 3 ∗ f 4 ∗ f 5 ∗ f 6 ∗ f 7)
  iintro ⟨H0, H1, H2, H3, H4, H5, H6, H7, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Seq

/-! ## The units -/

/-- The units a device waits for on ring `d` at step `j`. -/
def RecvC (d : Bool) (k : Fin 2) (j : ℕ) : sProp 𝕄 :=
  cred (tallyAt (cell c (.recv d (slotOf (j + 1)) k)) (2 * j + 2) (stepUnits j))
def CredC (d : Bool) (j : ℕ) : sProp 𝕄 := cred (tallyAt (cell c (.credit d)) (2 * j + 3) 1)

/-- All of them, as the launch gives them. -/
def StepC (d : Bool) (j : ℕ) : sProp 𝕄 :=
  iprop(RecvC c d 0 j ∗ (if j < 7 then RecvC c d 1 j else iprop(emp)) ∗ (if j < 13 then CredC c d j else iprop(emp)))

theorem recv_cred (d : Bool) (k : Fin 2) (j : ℕ) :
    (Pipeline.launchCred (fun e => sendDebt d e j k) c : sProp 𝕄) ⊢ RecvC c d k j :=
  Pipeline.launchCred_tallyAt (sm (.recv d (slotOf (j + 1)) k)) (tgt d) (src d) (tgt_src d) (src_tgt d) _ _ c

theorem credit_cred (d : Bool) (j : ℕ) :
    (Pipeline.launchCred (fun e => creditDebt d e j) c : sProp 𝕄) ⊢ CredC c d j :=
  Pipeline.launchCred_tallyAt (sm (.credit d)) (src d) (tgt d) (src_tgt d) (tgt_src d) _ _ c

theorem bar_cred (d : Bool) :
    (Pipeline.launchCred (fun e => tallyAt (cell (tgt d e) .bar) 1 1) c : sProp 𝕄) ⊢ cred (tallyAt (cell c .bar) 1 1) :=
  Pipeline.launchCred_tallyAt (sm .bar) (tgt d) (src d) (tgt_src d) (src_tgt d) _ _ c

theorem sends_cred (j : ℕ) :
    (Pipeline.launchCred (fun e => sendsDebt e j) c : sProp 𝕄)
      ⊢ iprop((RecvC c false 0 j ∗ (if j < 7 then RecvC c false 1 j else iprop(emp)))
        ∗ (RecvC c true 0 j ∗ (if j < 7 then RecvC c true 1 j else iprop(emp)))) := by
  by_cases h : j < 7
  · rw [if_pos h, if_pos h, show (fun e => sendsDebt e j)
      = fun e => ((sendDebt true e j 1 + sendDebt false e j 1) + sendDebt true e j 0) + sendDebt false e j 0 from
      funext fun e => if_pos h]
    rw [Pipeline.launchCred_add, Pipeline.launchCred_add, Pipeline.launchCred_add]
    iintro ⟨⟨⟨H1, H2⟩, H3⟩, H4⟩
    isplitl [H2 H4]
    · isplitl [H4]; · iapply (recv_cred c false 0 j); iexact H4
      iapply (recv_cred c false 1 j); iexact H2
    · isplitl [H3]; · iapply (recv_cred c true 0 j); iexact H3
      iapply (recv_cred c true 1 j); iexact H1
  · rw [if_neg h, if_neg h, show (fun e => sendsDebt e j) = fun e => sendDebt true e j 0 + sendDebt false e j 0 from
      funext fun e => if_neg h]
    rw [Pipeline.launchCred_add]
    iintro ⟨H3, H4⟩
    isplitl [H4]
    · isplitl [H4]; · iapply (recv_cred c false 0 j); iexact H4
      iempintro
    · isplitl [H3]; · iapply (recv_cred c true 0 j); iexact H3
      iempintro

theorem credits_cred (j : ℕ) :
    (Pipeline.launchCred (fun e => creditsDebt e j) c : sProp 𝕄)
      ⊢ iprop((if j < 13 then CredC c false j else iprop(emp)) ∗ (if j < 13 then CredC c true j else iprop(emp))) := by
  by_cases h : j < 13
  · rw [if_pos h, if_pos h, show (fun e => creditsDebt e j) = fun e => creditDebt true e j + creditDebt false e j from
      funext fun e => if_pos h]
    rw [Pipeline.launchCred_add]
    iintro ⟨H1, H2⟩
    isplitl [H2]; · iapply (credit_cred c false j); iexact H2
    iapply (credit_cred c true j); iexact H1
  · rw [if_neg h, if_neg h]
    iintro -
    isplitl []
    · iempintro
    · iempintro

theorem step_cred (j : ℕ) :
    iprop(Pipeline.launchCred (fun e => creditsDebt e j) c ∗ Pipeline.launchCred (fun e => sendsDebt e j) c)
      ⊢ (iprop(StepC c false j ∗ StepC c true j) : sProp 𝕄) := by
  iintro ⟨Hc, Hs⟩
  ihave Hc := (credits_cred c j) $$ Hc
  ihave Hs := (sends_cred c j) $$ Hs
  icases Hc with ⟨Cf, Ct⟩
  icases Hs with ⟨⟨Sf, Sf'⟩, ⟨St, St'⟩⟩
  unfold StepC
  isplitl [Cf Sf Sf']
  · isplitl [Sf]; · iexact Sf
    isplitl [Sf']; · iexact Sf'
    iexact Cf
  · isplitl [St]; · iexact St
    isplitl [St']; · iexact St'
    iexact Ct

theorem later_cred (n : ℕ) (hn : n ≤ 14) :
    (Pipeline.launchCred (fun e => laterDebt e n) c : sProp 𝕄)
      ⊢ seq (fun j => iprop(StepC c false j ∗ StepC c true j)) (14 - n) n := by
  induction n with
  | zero =>
    unfold seq
    iintro -
    iempintro
  | succ n ih =>
    rw [show (fun e => laterDebt e (n + 1)) = fun e => (laterDebt e n + creditsDebt e (13 - n)) + sendsDebt e (13 - n) from rfl,
      Pipeline.launchCred_add, Pipeline.launchCred_add, show 14 - (n + 1) = 13 - n by omega]
    unfold seq
    rw [show 13 - n + 1 = 14 - n by omega]
    iintro ⟨⟨Hl, Hc⟩, Hs⟩
    isplitl [Hc Hs]
    · iapply (step_cred c (13 - n))
      isplitl [Hc]; · iexact Hc
      iexact Hs
    · iapply (ih (by omega)); iexact Hl

theorem start_cred :
    (Pipeline.launchCred owed₀ c : sProp 𝕄)
      ⊢ iprop(cred (tallyAt (cell c .bar) 1 2) ∗ seq (StepC c false) 0 14 ∗ seq (StepC c true) 0 14) := by
  rw [show (owed₀ : Dev nD → Debt) = fun e => (laterDebt e 14 + tallyAt (cell (tgt false e) .bar) 1 1)
    + tallyAt (cell (tgt true e) .bar) 1 1 from rfl, Pipeline.launchCred_add, Pipeline.launchCred_add]
  iintro ⟨⟨Hl, H1⟩, H2⟩
  ihave H1 := (bar_cred c false) $$ H1
  ihave H2 := (bar_cred c true) $$ H2
  ihave Hl := (later_cred c 14 (le_refl _)) $$ Hl
  isplitl [H1 H2]
  · rw [show (2 : ℕ) = 1 + 1 from rfl, ← tallyAt_add]
    iapply (cred_add _ _).2
    isplitl [H1]; · iexact H1
    iexact H2
  · iapply (seq_unzip 0 14); iexact Hl

/-! ## The rights to signal -/

/-- The kinds of signal a step of a ring makes. -/
abbrev Sig : Type := Bool × Fin 14 × Fin 7

/-- A step's signal: the semaphore's kind, the round, and the signaller's mark. -/
def sigOf : Sig → Kd × ℕ × Bool
  | (d, j, 0) => (.send d (slotOf j) 0, j / 2, false)
  | (d, j, 1) => (.send d (slotOf j) 1, j / 2, false)
  | (d, j, 2) => (.recv d (slotOf (j + 1)) 0, j / 2, false)
  | (d, j, 3) => (.recv d (slotOf (j + 1)) 1, j / 2, false)
  | (d, j, 4) => (.copy d (slotOf (j + 1)), j / 2, false)
  | (d, j, 5) => (.credit d, j, false)
  | (d, j, 6) => (.bar, j, d)

theorem sigOf_inj : Function.Injective sigOf := by
  have h : ∀ a b : Sig, sigOf a = sigOf b → a = b := by decide +kernel
  exact fun a b => h a b

/-- Where a device's signal goes. -/
def sigTo : Sig → Dev nD ≃ Dev nD
  | (d, _, 0) => Equiv.refl _
  | (d, _, 1) => Equiv.refl _
  | (d, _, 2) => ring d
  | (d, _, 3) => ring d
  | (d, _, 4) => Equiv.refl _
  | (d, _, 5) => (ring d).symm
  | (d, _, 6) => ring (!d)

/-- The right to make one signal. -/
def sigTok (e : Dev nD) (x : Sig) : sProp 𝕄 := dutyTok ER (cell e (sigOf x).1) (sigOf x).2.1 (sigOf x).2.2

/-- Every right goes to the device that signals. -/
theorem toks_around :
    (bigSep Finset.univ fun e : Dev nD => bigSep Finset.univ fun x : Sig => (sigTok e x : sProp 𝕄))
      = bigSep Finset.univ fun e : Dev nD => bigSep Finset.univ fun x : Sig => sigTok (sigTo x e) x := by
  rw [BI.bigSep_univ_comm, BI.bigSep_univ_comm (fun (e : Dev nD) (x : Sig) => (sigTok (sigTo x e) x : sProp 𝕄))]
  exact bigSep_congr fun x _ => bigSep_univ_equiv (sigTo x) fun e => sigTok e x

/-- The rights of one ring, sorted. -/
def RingToks (d : Bool) : sProp 𝕄 :=
  iprop(seq (fun j => Tok c (.send d (slotOf j) 0) (j / 2)) 0 14 ∗ seq (fun j => Tok c (.send d (slotOf j) 1) (j / 2)) 0 14
    ∗ seq (fun j => Tok (tgt d c) (.recv d (slotOf (j + 1)) 0) (j / 2)) 0 14
    ∗ seq (fun j => Tok (tgt d c) (.recv d (slotOf (j + 1)) 1) (j / 2)) 0 14
    ∗ seq (fun j => Tok c (.copy d (slotOf (j + 1))) (j / 2)) 0 14 ∗ seq (fun j => Tok (src d c) (.credit d) j) 0 14
    ∗ seq (fun j => dutyTok ER (cell (tgt (!d) c) .bar) j d) 0 14)

theorem toks_ring (d : Bool) :
    (bigSep Finset.univ fun y : Fin 14 × Fin 7 => (sigTok (sigTo (d, y) c) (d, y) : sProp 𝕄)) ⊢ RingToks c d := by
  rw [bigSep_univ_prod]
  have h : ∀ j : Fin 14, (bigSep Finset.univ fun k : Fin 7 => (sigTok (sigTo (d, (j, k)) c) (d, (j, k)) : sProp 𝕄))
      ⊢ iprop(Tok c (.send d (slotOf j) 0) (j / 2) ∗ Tok c (.send d (slotOf j) 1) (j / 2)
        ∗ Tok (tgt d c) (.recv d (slotOf (j + 1)) 0) (j / 2) ∗ Tok (tgt d c) (.recv d (slotOf (j + 1)) 1) (j / 2)
        ∗ Tok c (.copy d (slotOf (j + 1))) (j / 2) ∗ Tok (src d c) (.credit d) j
        ∗ dutyTok ER (cell (tgt (!d) c) .bar) j d) := fun j => by
    rw [bigSep_univ_eq_bigSepL [0, 1, 2, 3, 4, 5, 6] (by decide) (by decide)]
    simp only [bigSepL_cons_cons, bigSepL_singleton]
    exact .rfl
  refine (bigSep_mono fun j _ => h j).trans ?_
  refine (seq_of_fin (f := fun j => iprop(Tok c (.send d (slotOf j) 0) (j / 2) ∗ Tok c (.send d (slotOf j) 1) (j / 2)
        ∗ Tok (tgt d c) (.recv d (slotOf (j + 1)) 0) (j / 2) ∗ Tok (tgt d c) (.recv d (slotOf (j + 1)) 1) (j / 2)
        ∗ Tok c (.copy d (slotOf (j + 1))) (j / 2) ∗ Tok (src d c) (.credit d) j
        ∗ dutyTok ER (cell (tgt (!d) c) .bar) j d))).trans ?_
  unfold RingToks
  refine (seq_unzip 0 14).trans (BIClass.sep_mono .rfl ?_)
  refine (seq_unzip 0 14).trans (BIClass.sep_mono .rfl ?_)
  refine (seq_unzip 0 14).trans (BIClass.sep_mono .rfl ?_)
  refine (seq_unzip 0 14).trans (BIClass.sep_mono .rfl ?_)
  refine (seq_unzip 0 14).trans (BIClass.sep_mono .rfl ?_)
  exact seq_unzip 0 14

theorem toks_rings :
    (bigSep Finset.univ fun x : Sig => (sigTok (sigTo x c) x : sProp 𝕄)) ⊢ iprop(RingToks c false ∗ RingToks c true) := by
  rw [bigSep_univ_prod, bigSep_univ_eq_bigSepL [false, true] (by decide) (by decide), bigSepL_cons_cons, bigSepL_singleton]
  exact BIClass.sep_mono (toks_ring c false) (toks_ring c true)

/-! ## Sorted by step -/

theorem ring_sup (d : Bool) :
    iprop(RingToks c d ∗ seq (StepC c d) 0 14 ∗ seq (Place c d) 0 8)
      ⊢ (iprop(dutyTok ER (cell (tgt (!d) c) .bar) 0 d ∗ RingSup c d) : sProp 𝕄) := by
  unfold RingToks
  iintro ⟨⟨S0, S1, R0, R1, Y, K, B⟩, C, Z⟩
  ihave C := (show seq (StepC c d) 0 14 ⊢ iprop(seq (RecvC c d 0) 0 14
      ∗ seq (fun j => if j < 7 then RecvC c d 1 j else iprop(emp)) 0 14
      ∗ seq (fun j => if j < 13 then CredC c d j else iprop(emp)) 0 14) from
    (seq_unzip 0 14).trans (BIClass.sep_mono .rfl (seq_unzip 0 14))) $$ C
  icases C with ⟨C0, C1, Ck⟩
  -- what half 0 uses up
  ihave T0 := (seq_zip (f := fun j => Tok (tgt d c) (.recv d (slotOf (j + 1)) 0) (j / 2)) (g := RecvC c d 0) 0 14) $$ [R0 C0]
  · isplitl [R0]; · iexact R0
    iexact C0
  ihave T0 := (show iprop(seq (fun j => Tok c (.send d (slotOf j) 0) (j / 2)) 0 14
      ∗ seq (fun j => iprop(Tok (tgt d c) (.recv d (slotOf (j + 1)) 0) (j / 2) ∗ RecvC c d 0 j)) 0 14) ⊢ seq (Sup c d 0) 0 (1 + (6 + (6 + 1))) from
    seq_zip 0 14) $$ [S0 T0]
  · isplitl [S0]; · iexact S0
    iexact T0
  -- what half 1 uses up
  ihave C1 := (show seq (fun j => if j < 7 then RecvC c d 1 j else iprop(emp)) 0 (7 + 7) ⊢ seq (RecvC c d 1) 0 7 from
    (seq_split 0 7 7).trans (BIBase.Entails.trans (by iintro ⟨H, -⟩; iexact H) (seq_mono 0 7 fun i _ h => Entails.of_eq (if_pos (by omega))))) $$ C1
  ihave R1 := (show seq (fun j => Tok (tgt d c) (.recv d (slotOf (j + 1)) 1) (j / 2)) 0 (7 + 7)
      ⊢ seq (fun j => Tok (F := F) (tgt d c) (.recv d (slotOf (j + 1)) 1) (j / 2)) 0 7 from
    (seq_split 0 7 7).trans (by iintro ⟨H, -⟩; iexact H)) $$ R1
  ihave S1 := (show seq (fun j => Tok c (.send d (slotOf j) 1) (j / 2)) 0 (7 + 7)
      ⊢ seq (fun j => Tok (F := F) c (.send d (slotOf j) 1) (j / 2)) 0 7 from
    (seq_split 0 7 7).trans (by iintro ⟨H, -⟩; iexact H)) $$ S1
  ihave T1 := (seq_zip (f := fun j => Tok (tgt d c) (.recv d (slotOf (j + 1)) 1) (j / 2)) (g := RecvC c d 1) 0 7) $$ [R1 C1]
  · isplitl [R1]; · iexact R1
    iexact C1
  ihave T1 := (show iprop(seq (fun j => Tok c (.send d (slotOf j) 1) (j / 2)) 0 7
      ∗ seq (fun j => iprop(Tok (tgt d c) (.recv d (slotOf (j + 1)) 1) (j / 2) ∗ RecvC c d 1 j)) 0 7) ⊢ seq (Sup c d 1) 0 (6 + 1) from
    seq_zip 0 7) $$ [S1 T1]
  · isplitl [S1]; · iexact S1
    iexact T1
  -- the credits, waited for and given
  ihave Ck := (show seq (fun j => if j < 13 then CredC c d j else iprop(emp)) 0 (13 + 1) ⊢ seq (CredC c d) 0 (6 + (6 + 1)) from
    (seq_split 0 13 1).trans (BIBase.Entails.trans (by iintro ⟨H, -⟩; iexact H) (seq_mono 0 13 fun i _ h => Entails.of_eq (if_pos (by omega))))) $$ Ck
  ihave Ck := (seq_split 0 6 (6 + 1)) $$ Ck
  icases Ck with ⟨Ca, Ck⟩
  ihave Ck := (seq_split (0 + 6) 6 1) $$ Ck
  icases Ck with ⟨Cb, Cc⟩
  ihave K := (show seq (fun j => Tok (src d c) (.credit d) j) 0 (13 + 1)
      ⊢ seq (fun j => Tok (F := F) (src d c) (.credit d) j) 0 ((6 + 6) + 1) from
    (seq_split 0 13 1).trans (by iintro ⟨H, -⟩; iexact H)) $$ K
  ihave K := (seq_first 0 (6 + 6)) $$ K
  icases K with ⟨K0, K⟩
  ihave K := (seq_split (0 + 1) 6 6) $$ K
  icases K with ⟨Ka, Kb⟩
  -- the first step, the reduce steps, the gather steps, the last
  ihave T0 := (seq_split 0 1 (6 + (6 + 1))) $$ T0
  icases T0 with ⟨A0, T0⟩
  ihave T0 := (seq_split (0 + 1) 6 (6 + 1)) $$ T0
  icases T0 with ⟨Ta, T0⟩
  ihave T0 := (seq_split (0 + 1 + 6) 6 1) $$ T0
  icases T0 with ⟨Tb, Tc⟩
  ihave T1 := (seq_first 0 6) $$ T1
  icases T1 with ⟨A1, T1⟩
  ihave Y := (show seq (fun j => Tok c (.copy d (slotOf (j + 1))) (j / 2)) 0 (8 + 6)
      ⊢ seq (fun j => Tok (F := F) c (.copy d (slotOf (j + 1))) (j / 2)) 0 ((6 + 1) + 1) from
    (seq_split 0 8 6).trans (by iintro ⟨H, -⟩; iexact H)) $$ Y
  ihave Y := (seq_first 0 (6 + 1)) $$ Y
  icases Y with ⟨Y0, Y⟩
  ihave Y := (seq_split (0 + 1) 6 1) $$ Y
  icases Y with ⟨Ya, Yb⟩
  ihave Z := (seq_first 0 (6 + 1)) $$ Z
  icases Z with ⟨Z0, Z⟩
  ihave Z := (seq_split (0 + 1) 6 1) $$ Z
  icases Z with ⟨Za, Zb⟩
  isplitl [B]
  · ihave B := (seq_first 0 13) $$ B
    icases B with ⟨B, -⟩
    iexact B
  unfold RingSup
  isplitl [A0 A1 K0]
  · isplitl [A0 A1]
    · isplitl [A0]; · iapply (seq_one (f := Sup c d 0) 0); iexact A0
      iexact A1
    iexact K0
  isplitl [Ta T1 Ca Ka]
  · ihave Ca := (seq_shift (g := fun i => CredC c d (i - 1)) (0 + 1) 0 6 fun i => Entails.of_eq (congrArg (CredC c d) (by omega))) $$ Ca
    ihave H1 := (seq_zip (f := Sup c d 0) (g := Sup c d 1) (0 + 1) 6) $$ [Ta T1]
    · isplitl [Ta]; · iexact Ta
      iexact T1
    ihave H2 := (seq_zip (f := fun i => CredC c d (i - 1)) (g := fun i => Tok (src d c) (.credit d) i) (0 + 1) 6) $$ [Ca Ka]
    · isplitl [Ca]; · iexact Ca
      iexact Ka
    iapply (show iprop(seq (fun i => iprop(Sup c d 0 i ∗ Sup c d 1 i)) (0 + 1) 6
      ∗ seq (fun i => iprop(CredC c d (i - 1) ∗ Tok (src d c) (.credit d) i)) (0 + 1) 6) ⊢ seq (StepSup c d) 1 6 from seq_zip 1 6)
    isplitl [H1]; · iexact H1
    iexact H2
  isplitl [Y0 Z0]
  · isplitl [Y0]; · iexact Y0
    iexact Z0
  isplitl [Tb Cb Ya Za Kb]
  · ihave Tb := (seq_shift (g := fun T => Sup c d 0 (T + 7)) 0 (0 + 1 + 6) 6 fun i => Entails.of_eq (congrArg (Sup c d 0) (by omega))) $$ Tb
    ihave Cb := (seq_shift (g := fun T => CredC c d (T + 6)) 0 (0 + 6) 6 fun i => Entails.of_eq (congrArg (CredC c d) (by omega))) $$ Cb
    ihave Ya := (seq_shift (g := fun T => Tok c (.copy d (slotOf (T + 2))) ((T + 1) / 2)) 0 (0 + 1) 6 fun i =>
      Entails.of_eq (by rw [show 0 + 1 + i = 0 + i + 1 by omega])) $$ Ya
    ihave Za := (seq_shift (g := fun T => Place c d (T + 1)) 0 (0 + 1) 6 fun i => Entails.of_eq (congrArg (Place c d) (by omega))) $$ Za
    ihave Kb := (seq_shift (g := fun T => Tok (src d c) (.credit d) (T + 7)) 0 (0 + 1 + 6) 6 fun i =>
      Entails.of_eq (congrArg (Tok (src d c) (.credit d)) (by omega))) $$ Kb
    ihave H1 := (seq_zip (f := fun T => Tok c (.copy d (slotOf (T + 2))) ((T + 1) / 2)) (g := fun T => Place c d (T + 1)) 0 6) $$ [Ya Za]
    · isplitl [Ya]; · iexact Ya
      iexact Za
    ihave H1 := (seq_zip (f := fun T => CredC c d (T + 6))
      (g := fun T => iprop(Tok c (.copy d (slotOf (T + 2))) ((T + 1) / 2) ∗ Place c d (T + 1))) 0 6) $$ [Cb H1]
    · isplitl [Cb]; · iexact Cb
      iexact H1
    ihave H1 := (show iprop(seq (fun T => Sup c d 0 (T + 7)) 0 6 ∗ seq (fun T => iprop(CredC c d (T + 6)
      ∗ Tok c (.copy d (slotOf (T + 2))) ((T + 1) / 2) ∗ Place c d (T + 1))) 0 6) ⊢ seq (GSup c d) 0 6 from seq_zip 0 6) $$ [Tb H1]
    · isplitl [Tb]; · iexact Tb
      iexact H1
    iapply (show iprop(seq (GSup c d) 0 6 ∗ seq (fun T => Tok (src d c) (.credit d) (T + 7)) 0 6) ⊢ seq (GStepSup c d) 0 6 from seq_zip 0 6)
    isplitl [H1]; · iexact H1
    iexact Kb
  unfold GSup
  isplitl [Tc]; · iapply (seq_one (f := Sup c d 0) (0 + 1 + 6 + 6)); iexact Tc
  isplitl [Cc]; · iapply (show seq (CredC c d) (0 + 6 + 6) 1 ⊢ cred (tallyAt (cell c (.credit d)) (2 * (6 + 6) + 3) 1) from seq_one (f := CredC c d) (0 + 6 + 6)); iexact Cc
  isplitl [Yb]; · iapply (seq_one (f := fun j => Tok c (.copy d (slotOf (j + 1))) (j / 2)) (0 + 1 + 6)); iexact Yb
  iapply (seq_one (f := Place c d) (0 + 1 + 6)); iexact Zb

end Cert.KernelIdeal.Ring
-- ==== Proof.Close.lean ====
module

public import proofs.«01_k».proof.Proof.Supply

@[expose] public section

noncomputable section

/-! # A device's semaphores

A device has one barrier semaphore and eleven for each ring. They all start, and all end, at zero. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Kd → ℕ)
variable (c : Dev nD)

/-- The eleven semaphores of ring `d`. -/
abbrev kd (d : Bool) : Fin 11 → Kd
  | 0 => .credit d
  | 1 => .send d 0 0
  | 2 => .send d 1 0
  | 3 => .recv d 1 0
  | 4 => .recv d 0 0
  | 5 => .send d 0 1
  | 6 => .send d 1 1
  | 7 => .recv d 1 1
  | 8 => .recv d 0 1
  | 9 => .copy d 1
  | 10 => .copy d 0

/-- One thing for each of them. -/
def ringSep (d : Bool) (Φ : Kd → sProp (MT nD τ sig ℕ (Elt F) ℕ UU ℕ)) : sProp (MT nD τ sig ℕ (Elt F) ℕ UU ℕ) :=
  bigSep Finset.univ fun i : Fin 11 => Φ (kd d i)

theorem ringSep_eq (d : Bool) (Φ : Kd → sProp (MT nD τ sig ℕ (Elt F) ℕ UU ℕ)) :
    ringSep d Φ = iprop(Φ (.credit d) ∗ Φ (.send d 0 0) ∗ Φ (.send d 1 0) ∗ Φ (.recv d 1 0) ∗ Φ (.recv d 0 0)
      ∗ Φ (.send d 0 1) ∗ Φ (.send d 1 1) ∗ Φ (.recv d 1 1) ∗ Φ (.recv d 0 1) ∗ Φ (.copy d 1) ∗ Φ (.copy d 0)) := by
  unfold ringSep
  rw [bigSep_univ_eq_bigSepL [0, 1, 2, 3, 4, 5, 6, 7, 8, 9, 10] (by decide) (by decide)]
  simp only [bigSepL_cons_cons, bigSepL_singleton]
  rfl

theorem kds_eq (Φ : Kd → sProp (MT nD τ sig ℕ (Elt F) ℕ UU ℕ)) :
    bigSep Finset.univ Φ = iprop(Φ .bar ∗ ringSep false Φ ∗ ringSep true Φ) := by
  rw [ringSep_eq, ringSep_eq, bigSep_univ_eq_bigSepL
    [.bar, .credit false, .send false 0 0, .send false 1 0, .recv false 1 0, .recv false 0 0,
      .send false 0 1, .send false 1 1, .recv false 1 1, .recv false 0 1, .copy false 1, .copy false 0,
      .credit true, .send true 0 0, .send true 1 0, .recv true 1 0, .recv true 0 0,
      .send true 0 1, .send true 1 1, .recv true 1 1, .recv true 0 1, .copy true 1, .copy true 0]
    (by decide +kernel) (by decide +kernel)]
  simp only [bigSepL_cons_cons, bigSepL_singleton]
  have h1 : iprop(Φ .bar ∗ Φ (.credit false) ∗ Φ (.send false 0 0) ∗ Φ (.send false 1 0) ∗ Φ (.recv false 1 0) ∗ Φ (.recv
      false 0 0) ∗ Φ (.send false 0 1) ∗ Φ (.send false 1 1) ∗ Φ (.recv false 1 1) ∗ Φ (.recv false 0 1) ∗ Φ (.copy
      false 1) ∗ Φ (.copy false 0) ∗ Φ (.credit true) ∗ Φ (.send true 0 0) ∗ Φ (.send true 1 0) ∗ Φ (.recv true 1 0)
      ∗ Φ (.recv true 0 0) ∗ Φ (.send true 0 1) ∗ Φ (.send true 1 1) ∗ Φ (.recv true 1 1) ∗ Φ (.recv true 0 1) ∗ Φ
      (.copy true 1) ∗ Φ (.copy true 0))
    ⊢ iprop(Φ .bar ∗ (Φ (.credit false) ∗ Φ (.send false 0 0) ∗ Φ (.send false 1 0) ∗ Φ (.recv false 1 0) ∗ Φ (.recv
      false 0 0) ∗ Φ (.send false 0 1) ∗ Φ (.send false 1 1) ∗ Φ (.recv false 1 1) ∗ Φ (.recv false 0 1) ∗ Φ (.copy
      false 1) ∗ Φ (.copy false 0)) ∗ Φ (.credit true) ∗ Φ (.send true 0 0) ∗ Φ (.send true 1 0) ∗ Φ (.recv true 1
      0) ∗ Φ (.recv true 0 0) ∗ Φ (.send true 0 1) ∗ Φ (.send true 1 1) ∗ Φ (.recv true 1 1) ∗ Φ (.recv true 0 1) ∗
      Φ (.copy true 1) ∗ Φ (.copy true 0)) := by
    iintro ⟨HB, Ha0, Hb0, Hc0, Hd0, He0, Hf0, Hg0, Hh0, Hi0, Hj0, Hk0, Ha1, Hb1, Hc1, Hd1, He1, Hf1, Hg1, Hh1, Hi1, Hj1, Hk1⟩
    isplitl [HB]; · iexact HB
    isplitl [Ha0 Hb0 Hc0 Hd0 He0 Hf0 Hg0 Hh0 Hi0 Hj0 Hk0]
    · isplitl [Ha0]; · iexact Ha0
      isplitl [Hb0]; · iexact Hb0
      isplitl [Hc0]; · iexact Hc0
      isplitl [Hd0]; · iexact Hd0
      isplitl [He0]; · iexact He0
      isplitl [Hf0]; · iexact Hf0
      isplitl [Hg0]; · iexact Hg0
      isplitl [Hh0]; · iexact Hh0
      isplitl [Hi0]; · iexact Hi0
      isplitl [Hj0]; · iexact Hj0
      iexact Hk0
    isplitl [Ha1]; · iexact Ha1
    isplitl [Hb1]; · iexact Hb1
    isplitl [Hc1]; · iexact Hc1
    isplitl [Hd1]; · iexact Hd1
    isplitl [He1]; · iexact He1
    isplitl [Hf1]; · iexact Hf1
    isplitl [Hg1]; · iexact Hg1
    isplitl [Hh1]; · iexact Hh1
    isplitl [Hi1]; · iexact Hi1
    isplitl [Hj1]; · iexact Hj1
    iexact Hk1
  have h2 : iprop(Φ .bar ∗ (Φ (.credit false) ∗ Φ (.send false 0 0) ∗ Φ (.send false 1 0) ∗ Φ (.recv false 1 0) ∗ Φ (.recv
      false 0 0) ∗ Φ (.send false 0 1) ∗ Φ (.send false 1 1) ∗ Φ (.recv false 1 1) ∗ Φ (.recv false 0 1) ∗ Φ (.copy
      false 1) ∗ Φ (.copy false 0)) ∗ Φ (.credit true) ∗ Φ (.send true 0 0) ∗ Φ (.send true 1 0) ∗ Φ (.recv true 1
      0) ∗ Φ (.recv true 0 0) ∗ Φ (.send true 0 1) ∗ Φ (.send true 1 1) ∗ Φ (.recv true 1 1) ∗ Φ (.recv true 0 1) ∗
      Φ (.copy true 1) ∗ Φ (.copy true 0))
    ⊢ iprop(Φ .bar ∗ Φ (.credit false) ∗ Φ (.send false 0 0) ∗ Φ (.send false 1 0) ∗ Φ (.recv false 1 0) ∗ Φ (.recv
      false 0 0) ∗ Φ (.send false 0 1) ∗ Φ (.send false 1 1) ∗ Φ (.recv false 1 1) ∗ Φ (.recv false 0 1) ∗ Φ (.copy
      false 1) ∗ Φ (.copy false 0) ∗ Φ (.credit true) ∗ Φ (.send true 0 0) ∗ Φ (.send true 1 0) ∗ Φ (.recv true 1 0)
      ∗ Φ (.recv true 0 0) ∗ Φ (.send true 0 1) ∗ Φ (.send true 1 1) ∗ Φ (.recv true 1 1) ∗ Φ (.recv true 0 1) ∗ Φ
      (.copy true 1) ∗ Φ (.copy true 0)) := by
    iintro ⟨HB, ⟨Ha0, Hb0, Hc0, Hd0, He0, Hf0, Hg0, Hh0, Hi0, Hj0, Hk0⟩, Ha1, Hb1, Hc1, Hd1, He1, Hf1, Hg1, Hh1, Hi1, Hj1, Hk1⟩
    isplitl [HB]; · iexact HB
    isplitl [Ha0]; · iexact Ha0
    isplitl [Hb0]; · iexact Hb0
    isplitl [Hc0]; · iexact Hc0
    isplitl [Hd0]; · iexact Hd0
    isplitl [He0]; · iexact He0
    isplitl [Hf0]; · iexact Hf0
    isplitl [Hg0]; · iexact Hg0
    isplitl [Hh0]; · iexact Hh0
    isplitl [Hi0]; · iexact Hi0
    isplitl [Hj0]; · iexact Hj0
    isplitl [Hk0]; · iexact Hk0
    isplitl [Ha1]; · iexact Ha1
    isplitl [Hb1]; · iexact Hb1
    isplitl [Hc1]; · iexact Hc1
    isplitl [Hd1]; · iexact Hd1
    isplitl [He1]; · iexact He1
    isplitl [Hf1]; · iexact Hf1
    isplitl [Hg1]; · iexact Hg1
    isplitl [Hh1]; · iexact Hh1
    isplitl [Hi1]; · iexact Hi1
    isplitl [Hj1]; · iexact Hj1
    iexact Hk1
  exact Entails.antisymm h1 h2

/-! ## Where a device starts and ends -/

/-- The rounds of each semaphore. -/
def last : Kd → ℕ
  | .bar => 1
  | .credit _ => 13
  | .send _ p k => if k = 0 then 7 else 4 - p.val
  | .recv _ p k => if k = 0 then 7 else 3 + p.val
  | .copy _ _ => 4

theorem duties_last (k : Kd) (r : ℕ) (h : last k ≤ r) : dutiesK k r = ∅ := by
  cases k with
  | bar => exact if_neg (by have : 1 ≤ r := h; omega)
  | credit d => exact if_neg (by have : 13 ≤ r := h; omega)
  | send d p k =>
    refine if_neg ?_
    dsimp only [last] at h
    unfold steps
    have := p.isLt
    split at h <;> rename_i hk
    · rw [if_pos hk]; omega
    · rw [if_neg hk]; omega
  | recv d p k =>
    refine if_neg ?_
    dsimp only [last] at h
    unfold steps
    have := p.isLt
    split at h <;> rename_i hk
    · rw [if_pos hk]; omega
    · rw [if_neg hk]; omega
  | copy d p => exact if_neg (by have : 4 ≤ r := h; have := p.isLt; omega)

theorem ring_pos (d : Bool) :
    ringSep d (fun k => Pos c k 0)
      ⊢ (iprop((Poss c d 0 0 ∗ Poss c d 1 0) ∗ Pos c (.credit d) 0 ∗ CPoss c d 0) : sProp 𝕄) := by
  rw [ringSep_eq]
  iintro ⟨Ha0, Hb0, Hc0, Hd0, He0, Hf0, Hg0, Hh0, Hi0, Hj0, Hk0⟩
  isplitl [Hb0 Hc0 Hd0 He0 Hf0 Hg0 Hh0 Hi0]
  · isplitl [Hb0 Hc0 Hd0 He0]
    · iapply (show iprop(Pos c (.send d 0 0) 0 ∗ Pos c (.send d 1 0) 0 ∗ Pos c (.recv d 1 0) 0 ∗ Pos c (.recv d 0 0) 0)
        ⊢ (Poss c d 0 0 : sProp 𝕄) from .rfl)
      isplitl [Hb0]; · iexact Hb0
      isplitl [Hc0]; · iexact Hc0
      isplitl [Hd0]; · iexact Hd0
      iexact He0
    · iapply (show iprop(Pos c (.send d 0 1) 0 ∗ Pos c (.send d 1 1) 0 ∗ Pos c (.recv d 1 1) 0 ∗ Pos c (.recv d 0 1) 0)
        ⊢ (Poss c d 1 0 : sProp 𝕄) from .rfl)
      isplitl [Hf0]; · iexact Hf0
      isplitl [Hg0]; · iexact Hg0
      isplitl [Hh0]; · iexact Hh0
      iexact Hi0
  isplitl [Ha0]; · iexact Ha0
  iapply (show iprop(Pos c (.copy d 1) 0 ∗ Pos c (.copy d 0) 0) ⊢ (CPoss c d 0 : sProp 𝕄) from .rfl)
  isplitl [Hj0]; · iexact Hj0
  iexact Hk0

theorem ring_last (d : Bool) :
    iprop((Poss c d 0 14 ∗ Poss c d 1 7) ∗ Pos c (.credit d) 13 ∗ CPoss c d 8)
      ⊢ (ringSep d (fun k => Pos c k (last k)) : sProp 𝕄) := by
  rw [ringSep_eq]
  iintro ⟨⟨H0, H1⟩, Ha0, H2⟩
  ihave H0 := (show (Poss c d 0 14 : sProp 𝕄)
    ⊢ iprop(Pos c (.send d 0 0) 7 ∗ Pos c (.send d 1 0) 7 ∗ Pos c (.recv d 1 0) 7 ∗ Pos c (.recv d 0 0) 7) from .rfl) $$ H0
  ihave H1 := (show (Poss c d 1 7 : sProp 𝕄)
    ⊢ iprop(Pos c (.send d 1 1) 3 ∗ Pos c (.send d 0 1) 4 ∗ Pos c (.recv d 0 1) 3 ∗ Pos c (.recv d 1 1) 4) from .rfl) $$ H1
  ihave H2 := (show (CPoss c d 8 : sProp 𝕄) ⊢ iprop(Pos c (.copy d 1) 4 ∗ Pos c (.copy d 0) 4) from .rfl) $$ H2
  icases H0 with ⟨Hb0, Hc0, Hd0, He0⟩
  icases H1 with ⟨Hg0, Hf0, Hi0, Hh0⟩
  icases H2 with ⟨Hj0, Hk0⟩
  isplitl [Ha0]; · iexact Ha0
  isplitl [Hb0]; · iexact Hb0
  isplitl [Hc0]; · iexact Hc0
  isplitl [Hd0]; · iexact Hd0
  isplitl [He0]; · iexact He0
  isplitl [Hf0]; · iexact Hf0
  isplitl [Hg0]; · iexact Hg0
  isplitl [Hh0]; · iexact Hh0
  isplitl [Hi0]; · iexact Hi0
  isplitl [Hj0]; · iexact Hj0
  iexact Hk0

/-! ## Closing -/

theorem bigSep_beside {I : Type} [DecidableEq I] {S : Finset I} {R : sProp (MT nD τ sig ℕ (Elt F) ℕ UU ℕ)} [BI.Persistent R]
    {Φ Ψ : I → sProp (MT nD τ sig ℕ (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_one (k : Kd) : iprop(ctx m K ∗ Pos c k (last k)) ⊢ |={Set.univ}=> (semVal (cell c k) 0 : sProp 𝕄) := by
  unfold Pos
  iintro ⟨#Hctx, Hat, -⟩
  imod (Rounds.cell_close ER (sched m) (Set.mem_univ (K (c, k))) (fun h => h) (R := last k)
    (fun r hr => (sched_duties m c k r).trans (duties_last k r hr))) $$ [Hat] with Hz
  · isplitr; · iapply (ctx_inv m K c k); iexact Hctx
    iexact Hat
  imodintro
  iexact Hz

theorem close_ring (d : Bool) :
    iprop(ctx m K ∗ ringSep d (fun k => Pos c k (last k))) ⊢ |={Set.univ}=> (ringSep d (fun k => semVal (cell c k) 0) : sProp 𝕄) :=
  (bigSep_beside fun i _ => close_one m K c (kd d i)).trans (bigSep_fupd _ _)

end Cert.KernelIdeal.Ring
-- ==== Proof.Launch.lean ====
module

public import proofs.«01_k».proof.Proof.Close
public import proofs.«01_k».proof.Proof.Gen.KernelIdeal.Launch
public import proofs.«01_k».proof.Proof.Gen.KernelIdeal.Points
public import Idealize.ShloMosaic.Lib.Pipeline.CollectiveSegs
public import Idealize.ShloMosaic.Lib.Tactic

@[expose] public section

noncomputable section

/-! # The launch

Eight devices start from any memory with every semaphore at zero. Each runs the kernel; each ends with the same result. -/

set_option maxRecDepth 200000

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Kd → ℕ)
variable (c : Dev nD)

/-! ## What a device starts from -/

/-- The invariants of all semaphores, and that all are at their first round. -/
def recs (K : Dev nD × Kd → ℕ) : sProp 𝕄 :=
  iprop((bigSep Finset.univ fun x : Dev nD × Kd => cellInv ER (sched m) (K x) (cell x.1 x.2))
    ∗ bigSep Finset.univ fun x : Dev nD × Kd => reached ER (cell x.1 x.2) 0)

instance recs_persistent : BI.Persistent (recs m K) := by unfold recs; infer_instance

/-- A device's positions and rights, under some names of the invariants. -/
def dealt (c : Dev nD) : sProp 𝕄 :=
  iprop((∃ K, recs m K) ∗ (Pos c .bar 0 ∗ ringSep false (fun k => Pos c k 0) ∗ ringSep true (fun k => Pos c k 0))
    ∗ RingToks c false ∗ RingToks c true)

/-- The result's buffer. -/
abbrev outPts (X : Buf (Elt F) ((c : Thread nD τ).loc main_v1)) : sProp 𝕄 := ((c : Thread nD τ).loc main_v1) ↦{fullShare} X

/-- What the kernel of a device starts from, but for its scratch. -/
def start (c : Dev nD) : sProp 𝕄 :=
  iprop((∃ K, ctx m K) ∗ ((cred (tallyAt (cell c .bar) 1 2) ∗ Pos c .bar 0)
      ∗ (ringSep false (fun k => Pos c k 0) ∗ RingToks c false ∗ seq (StepC c false) 0 14)
      ∗ (ringSep true (fun k => Pos c k 0) ∗ RingToks c true ∗ seq (StepC c true) 0 14))
    ∗ outPts c (m ((c : Thread nD τ).loc main_v1)))

abbrev scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)

/-- What it ends with: every semaphore at zero, the result in place. -/
def Φ₁ (c : Dev nD) : sProp 𝕄 :=
  iprop((semVal (cell c .bar) 0 ∗ ringSep false (fun k => semVal (cell c k) 0) ∗ ringSep true (fun k => semVal (cell c k) 0))
    ∗ outPts c (outAll m) ∗ scratch c)

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
    | ⟨2, _⟩ => sxstg m c
    | ⟨3, _⟩ => swstg m c
  Φ t := match t with
    | ⟨0, _⟩ => Φ₀ m c
    | ⟨_ + 1, _⟩ => Φ₁ m c
  q _ := fullShare
  owed t := match t with
    | ⟨0, _⟩ => owed₀ c
    | ⟨_ + 1, _⟩ => 0

theorem owns_whole (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owns_of_pts (b : Ref sig .tc) (X : b.ty.Contents (Elt F)) :
    ((((c : Thread nD τ).loc b) ↦{fullShare} X) : sProp 𝕄) ⊢ owns (c : Thread nD τ) (Memref.whole b) fullShare X := by
  rw [owns_whole]
  iintro H
  iexists X
  isplitr; · (ipureintro; rfl)
  iexact H

theorem pts_of_owns (b : Ref sig .tc) (X : b.ty.Contents (Elt F)) :
    (owns (c : Thread nD τ) (Memref.whole b) fullShare X : sProp 𝕄) ⊢ (((c : Thread nD τ).loc b) ↦{fullShare} X) := by
  rw [owns_whole]
  iintro ⟨%f, %hf, H⟩
  subst hf
  iexact H

theorem ins_eq : ins m c = iprop(owns (c : Thread nD τ) (Memref.whole cc0_stg0_0) fullShare (xstg m c)
    ∗ owns (c : Thread nD τ) (Memref.whole cc0_stg1_0) fullShare (wstg m c)
    ∗ owns (c : Thread nD τ) (Memref.whole cc0_stg2_0) fullShare (sxstg m c)
    ∗ owns (c : Thread nD τ) (Memref.whole cc0_stg3_0) fullShare (swstg m c)) := by
  unfold ins xIn wIn sxIn swIn
  simp only [Memref.view_whole, View.read_whole]

/-! ## The kernel, from there -/

theorem places :
    (outPts c (m ((c : Thread nD τ).loc main_v1)) : sProp 𝕄) ⊢ iprop(seq (Place c false) 0 8 ∗ seq (Place c true) 0 8) := by
  refine (owns_of_pts c main_v1 _).trans ((out_split c _).trans ?_)
  rw [bigSep_univ_prod, bigSep_univ_eq_bigSepL [false, true] (by decide) (by decide), bigSepL_cons_cons, bigSepL_singleton]
  have h : ∀ d : Bool, (bigSep Finset.univ fun t : Fin 8 => iprop(∃ Y, owns (c : Thread nD τ) (outBlk d c t) fullShare Y))
      ⊢ (seq (Place c d) 0 8 : sProp 𝕄) := fun d => by
    refine BIBase.Entails.trans (Entails.of_eq (bigSep_congr fun t _ => ?_)) (seq_of_fin8 (f := Place c d))
    unfold Place
    rw [show blkNo t.val = t from Fin.ext (Nat.mod_eq_of_lt t.isLt)]
  exact BIClass.sep_mono (h false) (h true)

theorem result :
    iprop(seq (Done m c false) 0 8 ∗ seq (Done m c true) 0 8) ⊢ (outPts c (outAll m) : sProp 𝕄) := by
  refine BIBase.Entails.trans ?_ ((out_join c m).trans (pts_of_owns c main_v1 _))
  rw [bigSep_univ_prod, bigSep_univ_eq_bigSepL [false, true] (by decide) (by decide), bigSepL_cons_cons, bigSepL_singleton]
  have h : ∀ d : Bool, (seq (Done m c d) 0 8 : sProp 𝕄) ⊢ bigSep Finset.univ fun t : Fin 8 =>
      owns (c : Thread nD τ) (outBlk d c t) fullShare (flat (blkAt m d t.val c)) := fun d => by
    refine (fin8_of_seq (f := Done m c d)).trans (Entails.of_eq (bigSep_congr fun t _ => ?_))
    unfold Done
    rw [show blkNo t.val = t from Fin.ext (Nat.mod_eq_of_lt t.isLt)]
  exact BIClass.sep_mono (h false) (h true)

theorem ring_in (d : Bool) :
    iprop(slotAny c d 0 ∗ (ringSep d (fun k => Pos c k 0) ∗ RingToks c d ∗ seq (StepC c d) 0 14) ∗ seq (Place c d) 0 8)
      ⊢ (iprop(dutyTok ER (cell (tgt (!d) c) .bar) 0 d ∗ RingIn c d ∗ RingSup c d) : sProp 𝕄) := by
  iintro ⟨Hs, ⟨Hp, Ht, Hc⟩, Hz⟩
  ihave Hp := (ring_pos c d) $$ Hp
  ihave H := (ring_sup c d) $$ [Ht Hc Hz]
  · isplitl [Ht]; · iexact Ht
    isplitl [Hc]; · iexact Hc
    iexact Hz
  icases H with ⟨Hb, Hr⟩
  isplitl [Hb]; · iexact Hb
  isplitr [Hr]
  · unfold RingIn
    isplitl [Hs]; · iexact Hs
    iexact Hp
  iexact Hr

/-- Everything closed and put together again. -/
theorem finish :
    iprop(ctx m K ∗ Pos c .bar 1 ∗ RingOut m c false ∗ RingOut m c true) ⊢ |={Set.univ}=> Φ₁ m c := by
  unfold RingOut
  iintro ⟨#Hctx, Hbar, ⟨Sf, Pf, Cf, Yf, Df⟩, ⟨St, Pt, Ct, Yt, Dt⟩⟩
  ihave Rf := (ring_last c false) $$ [Pf Cf Yf]
  · isplitl [Pf]; · iexact Pf
    isplitl [Cf]; · iexact Cf
    iexact Yf
  ihave Rt := (ring_last c true) $$ [Pt Ct Yt]
  · isplitl [Pt]; · iexact Pt
    isplitl [Ct]; · iexact Ct
    iexact Yt
  imod (show iprop(ctx m K ∗ Pos c .bar 1) ⊢ |={Set.univ}=> (semVal (cell c .bar) 0 : sProp 𝕄) from
    close_one m K c .bar) $$ [Hbar] with Zb
  · isplitr; · iexact Hctx
    iexact Hbar
  imod (close_ring m K c false) $$ [Rf] with Zf
  · isplitr; · iexact Hctx
    iexact Rf
  imod (close_ring m K c true) $$ [Rt] with Zt
  · isplitr; · iexact Hctx
    iexact Rt
  imodintro
  unfold Φ₁
  isplitl [Zb Zf Zt]
  · isplitl [Zb]; · iexact Zb
    isplitl [Zf]; · iexact Zf
    iexact Zt
  isplitl [Df Dt]
  · iapply (result m c)
    isplitl [Df]; · iexact Df
    iexact Dt
  ihave Sf := (comm_join c false) $$ Sf
  ihave St := (comm_join c true) $$ St
  icases Sf with ⟨%Xf, Sf⟩
  icases St with ⟨%Xt, St⟩
  unfold scratch
  isplitl [Sf]
  · iexists Xf
    iapply (pts_of_owns c cc0_scratch0 Xf)
    iexact Sf
  · iexists Xt
    iapply (pts_of_owns c cc0_scratch1 Xt)
    iexact St

theorem wp_device :
    iprop(Φ₀ m c ∗ Owes c (owed₀ c) ∗ ins m c) ⊢ WP c body fun _ => iprop(Φ₁ m c ∗ Owes c 0 ∗ ins m c) := by
  unfold Φ₀ start scratch
  iintro ⟨⟨⟨⟨%K, #Hctx⟩, ⟨Hbar, Rf, Rt⟩, Hout⟩, ⟨%f0, S0⟩, ⟨%f1, S1⟩⟩, HO, Hin⟩
  ihave Hz := (places m c) $$ Hout
  icases Hz with ⟨Zf, Zt⟩
  ihave S0 := (show ((((c : Thread nD τ).loc cc0_scratch0) ↦{fullShare} f0) : sProp 𝕄)
    ⊢ iprop(slotAny c false 0 ∗ slotAny c false 1) from (owns_of_pts c cc0_scratch0 f0).trans (comm_split c false f0)) $$ S0
  ihave S1 := (show ((((c : Thread nD τ).loc cc0_scratch1) ↦{fullShare} f1) : sProp 𝕄)
    ⊢ iprop(slotAny c true 0 ∗ slotAny c true 1) from (owns_of_pts c cc0_scratch1 f1).trans (comm_split c true f1)) $$ S1
  icases S0 with ⟨Sf, Sf'⟩
  icases S1 with ⟨St, St'⟩
  ihave Rf := (ring_in c false) $$ [Sf Rf Zf]
  · isplitl [Sf]; · iexact Sf
    isplitl [Rf]; · iexact Rf
    iexact Zf
  ihave Rt := (ring_in c true) $$ [St Rt Zt]
  · isplitl [St]; · iexact St
    isplitl [Rt]; · iexact Rt
    iexact Zt
  icases Rf with ⟨Tf, Rf⟩
  icases Rt with ⟨Tt, Rt⟩
  iapply (show WP c body (fun _ => iprop(|={Set.univ}=> (Φ₁ m c ∗ Owes c 0 ∗ ins m c)))
    ⊢ WP c body (fun _ => iprop(Φ₁ m c ∗ Owes c 0 ∗ ins m c)) from wp_fupd _ _ _ _ _)
  iapply (wp_body m K c _) $$ [Hin HO Hbar Tf Sf' Tt St' Rf Rt]
  · isplitr; · iexact Hctx
    isplitl [Hin]; · iexact Hin
    isplitl [HO]; · iexact HO
    isplitl [Hbar]; · iexact Hbar
    isplitl [Tf Sf']
    · isplitl [Tf]; · iexact Tf
      iexact Sf'
    isplitl [Tt St']
    · isplitl [Tt]; · iexact Tt
      iexact St'
    isplitl [Rf]; · iexact Rf
    iexact Rt
  iintro ⟨Hin, HO, Hbar, Hf, Ht⟩
  imod (finish m K c) $$ [Hbar Hf Ht] with H
  · isplitr; · iexact Hctx
    isplitl [Hbar]; · iexact Hbar
    isplitl [Hf]; · iexact Hf
    iexact Ht
  imodintro
  isplitl [H]; · iexact H
  isplitl [HO]; · iexact HO
  iexact Hin

/-! ## The obligation of the launch -/

theorem before_eq :
    (∀ d, (dats m 0 c).before (0 : Fin 4) t0_0 d = xstg m c) ∧ (∀ d, (dats m 0 c).before (1 : Fin 4) t0_0 d = wstg m c)
      ∧ (∀ d, (dats m 0 c).before (2 : Fin 4) t0_0 d = sxstg m c) ∧ (∀ d, (dats m 0 c).before (3 : Fin 4) t0_0 d = swstg m c) :=
  ⟨fun d => by unfold Dat.before; rw [if_pos (fetch0_0 t0_0)]; rfl,
   fun d => by unfold Dat.before; rw [if_pos (fetch0_1 t0_0)]; rfl,
   fun d => by unfold Dat.before; rw [if_pos (fetch0_2 t0_0)]; rfl,
   fun d => by unfold Dat.before; rw [if_pos (fetch0_3 t0_0)]; rfl⟩

def bodyPre : sProp 𝕄 :=
  iprop(Φ₀ m c ∗ (dats m 0 c).owesAt 0 t0_0.castSucc
    ∗ (∃ d, owns (c : Thread nD τ) (Memref.whole cc0_stg0_0) fullShare ((dats m 0 c).before (0 : Fin 4) t0_0 d))
    ∗ (∃ d, owns (c : Thread nD τ) (Memref.whole cc0_stg1_0) fullShare ((dats m 0 c).before (1 : Fin 4) t0_0 d))
    ∗ (∃ d, owns (c : Thread nD τ) (Memref.whole cc0_stg2_0) fullShare ((dats m 0 c).before (2 : Fin 4) t0_0 d))
    ∗ (∃ d, owns (c : Thread nD τ) (Memref.whole cc0_stg3_0) fullShare ((dats m 0 c).before (3 : Fin 4) t0_0 d)))

def bodyPost : sProp 𝕄 :=
  iprop(Φ₁ m c ∗ (dats m 0 c).owesAt 0 t0_0.succ
    ∗ owns (c : Thread nD τ) (Memref.whole cc0_stg0_0) fullShare (xstg m c)
    ∗ owns (c : Thread nD τ) (Memref.whole cc0_stg1_0) fullShare (wstg m c)
    ∗ owns (c : Thread nD τ) (Memref.whole cc0_stg2_0) fullShare (sxstg m c)
    ∗ owns (c : Thread nD τ) (Memref.whole cc0_stg3_0) fullShare (swstg m c))

theorem pre_in : bodyPre m c ⊢ iprop(Φ₀ m c ∗ Owes c (owed₀ c) ∗ ins m c) := by
  unfold bodyPre Dat.owesAt Pipeline.owesWithin Owes
  rw [ins_eq]
  simp only [(before_eq m c).1, (before_eq m c).2.1, (before_eq m c).2.2.1, (before_eq m c).2.2.2]
  iintro ⟨H, ⟨%W, %hW, HO⟩, ⟨%d0, H0⟩, ⟨%d1, H1⟩, ⟨%d2, H2⟩, ⟨%d3, H3⟩⟩
  isplitl [H]; · iexact H
  isplitl [HO]
  · iexists W; iexact HO
  isplitl [H0]; · iexact H0
  isplitl [H1]; · iexact H1
  isplitl [H2]; · iexact H2
  iexact H3

theorem post_out : iprop(Φ₁ m c ∗ Owes c 0 ∗ ins m c) ⊢ bodyPost m c := by
  unfold bodyPost Dat.owesAt Pipeline.owesWithin Owes
  rw [ins_eq]
  iintro ⟨H, ⟨%W, HO⟩, Hin⟩
  isplitl [H]; · iexact H
  isplitl [HO]
  · iexists W
    isplitr; · (ipureintro; exact fun _ _ => Or.inl trivial)
    iexact HO
  iexact Hin

theorem body_obligation (c : Dev nD) : BodyObligation (dats m 0 c) (defs₀ (F := F)) 𝒱₀ (0 : ℕ) Set.univ := fun t => by
  rw [fin_N0 t]
  rw [bigSep_W0, bigSep_W0]
  show bodyPre m c ⊢ WP c (bodyAt0 t0_0) (fun _ => bodyPost m c)
  rw [bodyAt_eq]
  exact (pre_in m c).trans ((wp_device m c).trans (wp_mono _ _ _ fun _ => post_out m c))

/-! ## Dealing -/

/-- The kernel's own semaphores. -/
abbrev osem (x : Bool × Fin 11) : SemLoc sig := sm (kd x.1 x.2)

theorem ownSemFacts : Pipeline.OwnSemFacts cfg0.spec osem := by decide +kernel

theorem share_eq (c : Dev nD) (w : Fin cfg0.W) : (dats m 0 c).share w = fullShare := by
  unfold Dat.share; split <;> rfl

theorem own_eq : (Pipeline.ownSems0 (Ix := ℕ) (Name := ℕ) (U := UU) (Lvl := ℕ) (Val := Elt F) (τ := τ) osem c : sProp 𝕄)
    = iprop(ringSep false (fun k => semVal (cell c k) 0) ∗ ringSep true (fun k => semVal (cell c k) 0)) := by
  unfold Pipeline.ownSems0
  rw [bigSep_univ_prod, bigSep_univ_eq_bigSepL [false, true] (by decide) (by decide), bigSepL_cons_cons, bigSepL_singleton]
  rfl

theorem unscoped_eq : (unscopedSems0 c : sProp 𝕄) = semVal (cell c .bar) 0 := by
  unfold unscopedSems0
  rw [bigSep_eq_bigSepL_of_eq [SemLoc.reg barSem] (by decide) (by decide)]
  rfl

theorem sems_eq :
    iprop(Pipeline.ownSems0 (Ix := ℕ) (Name := ℕ) (U := UU) (Lvl := ℕ) (Val := Elt F) (τ := τ) osem c ∗ unscopedSems0 c)
      ⊢ (bigSep Finset.univ fun k : Kd => semVal (cell c k) 0 : sProp 𝕄) := by
  rw [own_eq, unscoped_eq, kds_eq]
  iintro ⟨H, HB⟩
  isplitl [HB]; · iexact HB
  iexact H

theorem pair_inj : Function.Injective fun x : Dev nD × Kd => cell x.1 x.2 := fun x y h =>
  Prod.ext (cell_inj h).1 (cell_inj h).2

/-- One right of one device. -/
abbrev tokAt (x : Dev nD × Sig) : GSem nD τ sig × ℕ × Bool := (cell x.1 (sigOf x.2).1, (sigOf x.2).2.1, (sigOf x.2).2.2)

theorem tokAt_inj : Function.Injective tokAt := fun x y h => by
  have h1 := cell_inj (congrArg Prod.fst h)
  have h2 : (sigOf x.2).2 = (sigOf y.2).2 := congrArg (fun z : GSem nD τ sig × ℕ × Bool => z.2) h
  exact Prod.ext h1.1 (sigOf_inj (Prod.ext h1.2 h2))

def cells : Finset (GSem nD τ sig) := Finset.univ.map ⟨fun x : Dev nD × Kd => cell x.1 x.2, pair_inj⟩
def toks : Finset (GSem nD τ sig × ℕ × Bool) := Finset.univ.map ⟨tokAt, tokAt_inj⟩

def u₀ : UU := (initOf (Pipeline.cells cfgs cellOf_inj) (Pipeline.launchToks cfgs cellOf_inj), initOf cells toks)

/-- What is minted for a device's semaphores. -/
def mint (c : Dev nD) : sProp 𝕄 :=
  iprop((bigSep Finset.univ fun k : Kd => roundState ER (sched m) (cell c k) 0)
    ∗ (bigSep Finset.univ fun k : Kd => iprop(atPos ER (cell c k) 0 ∅ 0 ∗ reached ER (cell c k) 0))
    ∗ bigSep Finset.univ fun x : Sig => sigTok c x)

theorem fund_all : BI.own (ER (initOf cells toks)) ⊢ (|==> bigSep Finset.univ (mint m) : sProp 𝕄) := by
  have hX (Φ : GSem nD τ sig → sProp 𝕄) :
      bigSep cells Φ = bigSep Finset.univ fun c : Dev nD => bigSep Finset.univ fun k : Kd => Φ (cell c k) := by
    unfold cells; rw [bigSep_map, bigSep_univ_prod]; rfl
  have hT : bigSep toks (fun x => (dutyTok ER x.1 x.2.1 x.2.2 : sProp 𝕄))
      = bigSep Finset.univ fun c : Dev nD => bigSep Finset.univ fun x : Sig => sigTok c x := by
    unfold toks; rw [bigSep_map, bigSep_univ_prod]; rfl
  iintro HX
  imod (Rounds.fund ER (sched m) cells toks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold mint; simp only [bigSep_sep']
  isplitl [Hst']; · iexact Hst'
  isplitl [Hat' Hr']
  · isplitl [Hat'] <;> iassumption
  iexact Htok'

theorem alloc_device (c : Dev nD) :
    iprop(Pipeline.ownSems0 (Ix := ℕ) (Name := ℕ) (U := UU) (Lvl := ℕ) (Val := Elt F) (τ := τ) osem c ∗ unscopedSems0 c ∗ mint m c)
      ⊢ |={Set.univ}=> iprop((bigSep Finset.univ fun k : Kd => iprop(∃ κ : ℕ, cellInv ER (sched m) κ (cell c k)))
          ∗ (bigSep Finset.univ fun k : Kd => iprop(atPos ER (cell c k) 0 ∅ 0 ∗ reached ER (cell c k) 0))
          ∗ bigSep Finset.univ fun x : Sig => sigTok c x) := by
  unfold mint
  iintro ⟨Hos, Hus, Hst, Hat, Htok⟩
  ihave Hv := (sems_eq (F := F) c) $$ [Hos Hus]
  · isplitl [Hos] <;> iassumption
  imod (show iprop((bigSep Finset.univ fun k : Kd => semVal (cell c k) 0) ∗ bigSep Finset.univ fun k : Kd => roundState ER (sched m) (cell c k) 0)
      ⊢ (|={Set.univ}=> bigSep Finset.univ fun k : Kd => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem deal_one (K : Dev nD × Kd → ℕ) (c : Dev nD) :
    iprop(recs m K ∗ (bigSep Finset.univ fun k : Kd => iprop(atPos ER (cell c k) 0 ∅ 0 ∗ reached ER (cell c k) 0))
      ∗ bigSep Finset.univ fun x : Sig => sigTok (sigTo x c) x) ⊢ dealt m c := by
  iintro ⟨#HK, Hp, Ht⟩
  unfold dealt
  isplitr
  · iexists K; iexact HK
  isplitl [Hp]
  · iapply (Entails.of_eq (kds_eq fun k => (Pos c k 0 : sProp 𝕄)))
    iexact Hp
  iapply (toks_rings c)
  iexact Ht

theorem deal_all :
    (bigSep Finset.univ fun c : Dev nD => iprop((bigSep Finset.univ fun k : Kd => iprop(∃ κ : ℕ, cellInv ER (sched m) κ (cell c k)))
          ∗ (bigSep Finset.univ fun k : Kd => iprop(atPos ER (cell c k) 0 ∅ 0 ∗ reached ER (cell c k) 0))
          ∗ bigSep Finset.univ fun x : Sig => sigTok c x) : sProp 𝕄)
      ⊢ bigSep Finset.univ (dealt m) := by
  have hR : (bigSep Finset.univ fun c : Dev nD => bigSep Finset.univ fun k : Kd =>
      iprop(atPos ER (cell c k) 0 ∅ 0 ∗ reached ER (cell c k) 0) : sProp 𝕄)
      ⊢ iprop((bigSep Finset.univ fun c : Dev nD => bigSep Finset.univ fun k : Kd => atPos ER (cell c k) 0 ∅ 0)
        ∗ bigSep Finset.univ fun x : Dev nD × Kd => reached ER (cell x.1 x.2) 0) := by
    refine Entails.of_eq ?_
    rw [bigSep_univ_prod, ← bigSep_sep']
    exact bigSep_congr fun c _ => bigSep_sep' _ _ _
  have hL : (iprop((bigSep Finset.univ fun c : Dev nD => bigSep Finset.univ fun k : Kd => atPos ER (cell c k) 0 ∅ 0)
        ∗ bigSep Finset.univ fun x : Dev nD × Kd => reached ER (cell x.1 x.2) 0) : sProp 𝕄)
      ⊢ (bigSep Finset.univ fun c : Dev nD => bigSep Finset.univ fun k : Kd =>
      iprop(atPos ER (cell c k) 0 ∅ 0 ∗ reached ER (cell c k) 0)) := by
    refine Entails.of_eq ?_
    rw [bigSep_univ_prod, ← bigSep_sep']
    exact (bigSep_congr fun c _ => bigSep_sep' _ _ _).symm
  rw [bigSep_sep', bigSep_sep', toks_around,
    ← bigSep_univ_prod (fun x : Dev nD × Kd => iprop(∃ κ : ℕ, cellInv ER (sched m) κ (cell x.1 x.2)))]
  iintro ⟨HI, Hp, Htok⟩
  ihave Hp := hR $$ Hp
  icases Hp with ⟨Hat, #HR⟩
  ihave HK := (BI.bigSep_exists_pi Finset.univ (fun (x : Dev nD × Kd) (κ : ℕ) => (cellInv ER (sched m) κ (cell x.1 x.2) : sProp 𝕄))) $$ HI
  icases HK with ⟨%K, #HI⟩
  ihave Hp := hL $$ [Hat]
  · isplitl [Hat]; · iexact Hat
    iexact HR
  iapply (bigSep_beside (R := recs m K) fun c _ => deal_one m K c)
  isplitr
  · unfold recs; isplitl; · iexact HI
    iexact HR
  · iapply (Entails.of_eq (bigSep_sep' Finset.univ (fun c : Dev nD => bigSep Finset.univ fun k : Kd =>
      (iprop(atPos ER (cell c k) 0 ∅ 0 ∗ reached ER (cell c k) 0) : sProp 𝕄))
      (fun c : Dev nD => bigSep Finset.univ fun x : Sig => sigTok (sigTo x c) x)).symm)
    isplitl [Hp]; · iexact Hp
    iexact Htok

theorem glob : (bigSep Finset.univ fun c => iprop(Pipeline.ownSems0 (Ix := ℕ) (Name := ℕ) (U := UU) (Lvl := ℕ) (Val := Elt F) (τ := τ) osem c ∗ unscopedSems0 c ∗ mint m c) : sProp 𝕄)
    ⊢ |={Set.univ}=> bigSep Finset.univ (dealt m) :=
  ((bigSep_mono fun c _ => alloc_device m c).trans (bigSep_fupd _ _)).trans (BI.fupd_mono (deal_all m))

/-! ## In and out -/

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealt m c)
      ⊢ |={Set.univ}=> iprop(start m c ∗ emp) := by
  rw [Pipeline.unscopedRestP_none, unscopedRest0_eq]
  unfold dealt recs
  iintro ⟨Hout, #Hlev, Hcr, -, ⟨%K, #HI, #HR⟩, ⟨Pb, Pf, Pt⟩, Tf, Tt⟩
  ihave Hc := (start_cred (F := F) c) $$ Hcr
  icases Hc with ⟨Cb, Cf, Ct⟩
  imodintro
  unfold start ctx
  isplitl
  · isplitr
    · iexists K
      isplitr; · iexact HI
      isplitr; · iexact HR
      iexact Hlev
    isplitr [Hout]
    · isplitl [Cb Pb]
      · isplitl [Cb]; · iexact Cb
        iexact Pb
      isplitl [Pf Tf Cf]
      · isplitl [Pf]; · iexact Pf
        isplitl [Tf]; · iexact Tf
        iexact Cf
      · isplitl [Pt]; · iexact Pt
        isplitl [Tt]; · iexact Tt
        iexact Ct
    · iexact Hout
  · iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What is read at the end. -/
def endHeld (c : Dev nD) : sProp 𝕄 := iprop(unscopedSems0 c ∗ outPts c (outAll m))

theorem phi_out (c : Dev nD) :
    (dats m 0 c).Φ (Fin.last cfg0.N) ⊢ iprop(endHeld m c ∗ Pipeline.ownSems0 osem c ∗ Pipeline.scopedRest cfg0.spec c) := by
  rw [show (dats m 0 c).Φ (Fin.last cfg0.N) = Φ₁ m c from rfl, scopedRest0_eq, own_eq]
  unfold Φ₁ endHeld
  rw [unscoped_eq]
  iintro ⟨⟨Hb, Hz⟩, Hout, Hs⟩
  isplitl [Hb Hout]
  · isplitl [Hb]; · iexact Hb
    iexact Hout
  isplitl [Hz]; · iexact Hz
  iexact Hs

theorem above_start : Above 0 (owed₀ c) :=
  above_add (above_add (above_owed c 0 0 (by omega)) (above_tally _ _ _ _ (by omega) (by omega)))
    (above_tally _ _ _ _ (by omega) (by omega))

theorem waits (c : Dev nD) : (levAts L lv : sProp 𝕄) ⊢ Pipeline.cellsWaits cfgs (dats m) 0 0 c :=
  Pipeline.cellsWaits_intro cfgs (dats m) 0 0 c fun w s t =>
    mayWait c _ 0 (by decide) (by
      rcases t with ⟨_ | _, ht⟩
      · exact above_start c
      · exact above_zero 0)

theorem L_off (g : GSem nD τ sig) (h : g.1.2 ≠ .tc) : L g = ∅ := if_neg h

/-- What is read of a device's memory at the end. -/
def QY (c : Dev nD) (s : MemSt nD τ sig (Elt F)) : Prop :=
  s.mem ((c : Thread nD τ).loc main_v1) = outAll m
    ∧ ∀ x : SemLoc sig, x.isScoped .tc = false → s.sem ((c.tc : Thread nD τ), x) = 0

theorem read_end (c : Dev nD) (s' : Phys nD τ sig (Elt F)) :
    iprop(endHeld m c ∗ emp ∗ SI s') ⊢ |={Set.univ}=> (iprop(⌜QY m c s'.mem⌝ ∗ SI s') : sProp 𝕄) := by
  unfold endHeld
  iintro ⟨⟨Hu, Hout⟩, -, HSI⟩
  ihave %h := (SI_pointsTo_agree (st := s') (ℓ := (c : Thread nD τ).loc main_v1) (I := Finset.univ) (q := fullShare) (f := outAll m)) $$ [HSI Hout]
  · isplitl [HSI]; · iexact HSI
    iexact Hout
  imod (Pipeline.unscopedSems0_read (X := unscopedSems0 c) (c := c) fupd_intro s') $$ [Hu HSI] with ⟨%h2, HSI⟩
  · isplitl [Hu] <;> iassumption
  imodintro
  isplitr
  · ipureintro
    exact ⟨funext fun i => h i (Finset.mem_univ _), h2⟩
  iexact HSI

/-! ## The run -/

/-- From any memory with every semaphore at zero, every run ends, with the four operands unchanged, the result in place
    on every device, and every semaphore at zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = m ((cfg0.win w).arr.view.loc (c : Thread nD τ)))
      ∧ r.2.mem ((c : Thread nD τ).loc main_v1) = outAll m) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := fun c => (body_obligation m c)) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_off) (hwaits := waits m)
    (G := mint m) (G' := dealt m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := endHeld m) (Z := fun _ => iprop(emp))
    (hX := start_intro m ρ) (hin := phi_in m) (hout := phi_out m)
    (QY := QY m) (hY := read_end m)
    (hQ := fun _ h hs => ⟨fun c => ⟨fun w => ((h c).1 w).trans (by
        fin_cases w
        · exact (dats m 0 c).arrAt_in (0 : Fin 4) rfl _
        · exact (dats m 0 c).arrAt_in (1 : Fin 4) rfl _
        · exact (dats m 0 c).arrAt_in (2 : Fin 4) rfl _
        · exact (dats m 0 c).arrAt_in (3 : Fin 4) rfl _), (h c).2.2.1⟩, sem_eq_zero hs fun c => (h c).2.2.2⟩)

/-- Every run ends without a fault, its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).1 0, (h.1 c).1 1, (h.1 c).1 2, (h.1 c).1 3⟩, h.2⟩) (run_main m ρ)

end Cert.KernelIdeal.Ring

end
-- ==== Proof.Value.lean ====
module

public import proofs.«01_k».proof.Proof.Contents
public import Idealize.ShloMosaic.Lib.Pipeline.ValueKit.Tiles
public import Idealize.ShloMosaic.Lib.Pointwise

@[expose] public section

set_option maxRecDepth 20000

noncomputable section

/-! # The result over the extended reals

With exact operations the running sum of a reduce ring, after seven steps, is the sum over all devices of the
products of their parts, which is the product of the whole factors. -/

namespace Cert.KernelIdeal.Ring

open Idealize.ShloMosaic Idealize.ShloMosaic.TcCoe
open Cert.KernelIdeal Cert.KernelIdeal.Gen

/-! ## The payloads at an index -/

theorem first_at (x : Vec Ideal S256x512 .fp8e4m3) (w : Vec Ideal S512x8192 .fp8e5m2) (r : Fin 256) (l : Fin 8192) :
    k0_pay3 x w (ix3 0 r l) = ∑ κ : Fin 512, (x (ix2 r κ) : EReal) * w (ix2 κ l) := by
  pointwise [k0_pay3]

theorem prod_at (x : Vec Ideal S128x512 .fp8e4m3) (w : Vec Ideal S512x8192 .fp8e5m2) (r : Fin 128) (l : Fin 8192) :
    k0_pay5 x w (ix2 r l) = ∑ κ : Fin 512, (x (ix2 r κ) : EReal) * w (ix2 κ l) := by
  pointwise [k0_pay5]

theorem add_at (p : FVec Ideal S128x8192 .f32) (v : Vec Ideal S1x128x8192 .bf16) (r : Fin 128) (l : Fin 8192) :
    k0_pay8 p v (ix3 0 r l) = (v (ix3 0 r l) : EReal) + p (ix2 r l) := by
  pointwise [k0_pay8]

/-- The activation of one element: what it is at the bounds 60 and -60 of the clip. -/
def act (y : EReal) : EReal :=
  Ideal.div y (1 + Ideal.exp (0 - min (Ideal.ofBits .f32 0x42700000#32) (max (Ideal.ofBits .f32 0xC2700000#32) y)))

theorem bound_real (b : BitVec 32) (h : (b.extractLsb' 23 8).toNat ≠ 2 ^ 8 - 1) : ∃ r : ℝ, Ideal.ofBits .f32 b = (r : EReal) := by
  show ∃ r : ℝ, Ideal.ieee 8 23 b = (r : EReal)
  unfold Ideal.ieee
  dsimp only
  rw [if_neg h]
  split
  · exact ⟨_, rfl⟩
  · exact ⟨_, rfl⟩

/-- A value clipped to real bounds is real. -/
theorem clip_real (a b : ℝ) (y : EReal) : ∃ r : ℝ, min (a : EReal) (max (b : EReal) y) = (r : EReal) := by
  induction y using EReal.rec with
  | bot => exact ⟨min a b, by rw [max_bot_right]; exact (EReal.coe_strictMono.monotone.map_min).symm⟩
  | top => exact ⟨a, by rw [max_top_right, min_top_right]⟩
  | coe y => exact ⟨min a (max b y), by
      rw [EReal.coe_strictMono.monotone.map_min, EReal.coe_strictMono.monotone.map_max]⟩

/-- Multiplying by the reciprocal is dividing, for the divisor is never zero. -/
theorem act_recip (y : EReal) :
    y * Ideal.div 1 (1 + Ideal.exp (0 - min (Ideal.ofBits .f32 0x42700000#32) (max (Ideal.ofBits .f32 0xC2700000#32) y)))
      = act y := by
  obtain ⟨a, ha⟩ := bound_real 0x42700000#32 (by decide)
  obtain ⟨b, hb⟩ := bound_real 0xC2700000#32 (by decide)
  obtain ⟨r, hr⟩ := clip_real a b y
  unfold act
  rw [ha, hb, hr]
  have hz : (1 + Ideal.exp (0 - (r : EReal)) : EReal) ≠ 0 := by
    rw [zero_sub, ← EReal.coe_neg, Ideal.exp_coe, ← EReal.coe_one, ← EReal.coe_add]
    have : (0 : ℝ) < 1 + Real.exp (-r) := by positivity
    exact_mod_cast this.ne'
  unfold Ideal.div
  rw [if_neg hz, if_neg hz, one_mul]

theorem act_at (s : Ideal .f32) (v : Vec Ideal S1x256x8192 .bf16) (r : Fin 256) (l : Fin 8192) :
    k0_pay71 s v (ix3 0 r l) = act ((v (ix3 0 r l) : EReal) * s) := by
  rw [← act_recip]
  pointwise [k0_pay71]

/-! ## What a device loads -/

variable (m : (ℓ : Loc nD τ sig) → Buf (Elt Ideal) ℓ)

/-- The two factors' parts on a device. -/
def xPart (c : Dev nD) (r : Fin 4096) (κ : Fin 512) : EReal := m ((c : Thread nD τ).loc main_arg0) (ix2 r κ)
def wPart (c : Dev nD) (κ : Fin 512) (l : Fin 8192) : EReal := m ((c : Thread nD τ).loc main_arg1) (ix2 κ l)

/-- What device `c` adds to an element of the product. -/
def term (r : Fin 4096) (l : Fin 8192) (c : Dev nD) : EReal := ∑ κ : Fin 512, xPart m c r κ * wPart m c κ l

theorem index_zero : (∀ a : Fin 2, win0_0.index (0 : Fin 1) a = 0) ∧ (∀ a : Fin 2, win0_1.index (0 : Fin 1) a = 0)
    ∧ (∀ a : Fin 1, win0_2.index (0 : Fin 1) a = 0) ∧ ∀ a : Fin 1, win0_3.index (0 : Fin 1) a = 0 := by
  decide +kernel

theorem xstg_eq (c : Dev nD) : xstg m c = m ((c : Thread nD τ).loc main_arg0) := by
  have h := index_zero.1
  funext y
  show m ((c : Thread nD τ).loc main_arg0) ((win0_0.blk (0 : Fin 1)).view.emb y) = _
  refine congrArg _ (funext fun a => Fin.ext ?_)
  match a with
  | ⟨0, _⟩ => show win0_0.index (0 : Fin 1) (0 : Fin 2) * 4096 + 1 * (y 0).val = (y 0).val; rw [h]; omega
  | ⟨1, _⟩ => show win0_0.index (0 : Fin 1) (1 : Fin 2) * 512 + 1 * (y 1).val = (y 1).val; rw [h]; omega

theorem wstg_eq (c : Dev nD) : wstg m c = m ((c : Thread nD τ).loc main_arg1) := by
  have h := index_zero.2.1
  funext y
  show m ((c : Thread nD τ).loc main_arg1) ((win0_1.blk (0 : Fin 1)).view.emb y) = _
  refine congrArg _ (funext fun a => Fin.ext ?_)
  match a with
  | ⟨0, _⟩ => show win0_1.index (0 : Fin 1) (0 : Fin 2) * 512 + 1 * (y 0).val = (y 0).val; rw [h]; omega
  | ⟨1, _⟩ => show win0_1.index (0 : Fin 1) (1 : Fin 2) * 8192 + 1 * (y 1).val = (y 1).val; rw [h]; omega

/-- The only index of a one-element array. -/
abbrev one : S1.Idx := Shape.Idx.first (numel1_S1.symm ▸ Nat.one_pos)

theorem one_unique (i j : S1.Idx) : i = j := by
  funext a
  match a with
  | ⟨0, _⟩ =>
    have h1 : (i 0).val < 1 := (i 0).isLt
    have h2 : (j 0).val < 1 := (j 0).isLt
    exact Fin.ext (show (i 0).val = (j 0).val by omega)

theorem sxAt_eq (c : Dev nD) (i : S1.Idx) : sxAt m c = m ((c : Thread nD τ).loc main_arg2) i := by
  show m ((c : Thread nD τ).loc main_arg2) _ = _
  exact congrArg _ (one_unique _ _)

theorem swAt_eq (c : Dev nD) (i : S1.Idx) : swAt m c = m ((c : Thread nD τ).loc main_arg3) i := by
  show m ((c : Thread nD τ).loc main_arg3) _ = _
  exact congrArg _ (one_unique _ _)

theorem wAll_at (c : Dev nD) (κ : Fin 512) (l : Fin 8192) : wAll m c (ix2 κ l) = wPart m c κ l := by
  unfold wAll wPart
  show wstg m c _ = _
  rw [wstg_eq]
  refine congrArg _ (funext fun a => Fin.ext ?_)
  match a with
  | ⟨0, _⟩ => exact (Rect.idx_unit_val ..).trans (Nat.zero_add _)
  | ⟨1, _⟩ => exact (Rect.idx_unit_val ..).trans (Nat.zero_add _)

theorem xRows_at (d : Bool) (c : Dev nD) (j : ℕ) (k : Fin 2) (r : Fin 128) (κ : Fin 512) (R : Fin 4096)
    (h0 : xOff d c (stepNo j).val k.val 0 + r.val = R.val) (h1 : xOff d c (stepNo j).val k.val 1 = 0) :
    xRows m d c j k (ix2 r κ) = xPart m c R κ := by
  unfold xRows xPart
  show xstg m c _ = _
  rw [xstg_eq]
  refine congrArg _ (funext fun a => Fin.ext ?_)
  match a with
  | ⟨0, _⟩ => exact (Rect.idx_unit_val ..).trans h0
  | ⟨1, _⟩ => exact (Rect.idx_unit_val ..).trans ((congrArg (· + κ.val) h1).trans (Nat.zero_add _))

theorem xInit_at (d : Bool) (c : Dev nD) (r : Fin 256) (κ : Fin 512) (R : Fin 4096)
    (h0 : k0_off1 c (BitVec.ofNat 32 (256 * d.toNat)) 0 + r.val = R.val)
    (h1 : k0_off1 c (BitVec.ofNat 32 (256 * d.toNat)) 1 = 0) :
    xInit m d c (ix2 r κ) = xPart m c R κ := by
  unfold xInit xPart
  show xstg m c _ = _
  rw [xstg_eq]
  refine congrArg _ (funext fun a => Fin.ext ?_)
  match a with
  | ⟨0, _⟩ => exact (Rect.idx_unit_val ..).trans h0
  | ⟨1, _⟩ => exact (Rect.idx_unit_val ..).trans ((congrArg (· + κ.val) h1).trans (Nat.zero_add _))

/-! ## The running sum -/

/-- The first row that a device's step works on, if that row is `B`. -/
def StartsAt (d : Bool) (k : Fin 2) (B : ℕ) (n : ℕ) (c : Dev nD) : Prop :=
  (k0_off1 (back d n c) (BitVec.ofNat 32 (256 * d.toNat)) 0 + 128 * k.val = B
    ∧ k0_off1 (back d n c) (BitVec.ofNat 32 (256 * d.toNat)) 1 = 0)
  ∧ ∀ t < n, xOff d (back d t c) (stepNo (n - 1 - t)).val k.val 0 = B
    ∧ xOff d (back d t c) (stepNo (n - 1 - t)).val k.val 1 = 0

theorem StartsAt.prev {d : Bool} {k : Fin 2} {B n : ℕ} {c : Dev nD} (h : StartsAt d k B (n + 1) c) :
    StartsAt d k B n (src d c) :=
  ⟨h.1, fun t ht => by
    have := h.2 (t + 1) (by omega)
    rw [show n + 1 - 1 - (t + 1) = n - 1 - t by omega] at this
    exact this⟩

theorem half_index (k : Fin 2) (r : Fin 128) (l : Fin 8192) (R : Fin 256) (hR : 128 * k.val + r.val = R.val) :
    (halfRect k).emb (ix3 0 r l) = ix3 0 R l := by
  funext a
  refine Fin.ext ?_
  rw [halfRect_val]
  match a with
  | ⟨0, _⟩ => rfl
  | ⟨1, _⟩ => exact hR
  | ⟨2, _⟩ => exact Nat.zero_add _

theorem sumAt_zero (d : Bool) (c : Dev nD) (k : Fin 2) (i : S1x128x8192.Idx) :
    sumAt m d 0 c k i = k0_pay3 (xInit m d c) (wAll m c) ((halfRect k).emb i) := rfl

theorem sumAt_succ (d : Bool) (n : ℕ) (c : Dev nD) (k : Fin 2) :
    sumAt m d (n + 1) c k = k0_pay8 (k0_pay5 (xRows m d c n k) (wAll m c)) (sumAt m d n (src d c) k) := rfl

theorem sum_first (d : Bool) (k : Fin 2) (B : ℕ) (r : Fin 128) (l : Fin 8192) (R : Fin 4096) (hR : B + r.val = R.val)
    (c : Dev nD) (h : StartsAt d k B 0 c) : sumAt m d 0 c k (ix3 0 r l) = term m R l c := by
  have hk : k.val < 2 := k.isLt
  have hr : r.val < 128 := r.isLt
  have h0 := h.1.1
  rw [back_zero] at h0
  rw [sumAt_zero, half_index k r l ⟨128 * k.val + r.val, by omega⟩ rfl, first_at]
  refine Finset.sum_congr rfl fun κ _ => ?_
  rw [xInit_at m d c _ κ R (by show _ + (128 * k.val + r.val) = _; omega) h.1.2, wAll_at]

theorem sum_next (d : Bool) (k : Fin 2) (B : ℕ) (r : Fin 128) (l : Fin 8192) (R : Fin 4096) (hR : B + r.val = R.val)
    (n : ℕ) (c : Dev nD) (h : StartsAt d k B (n + 1) c) :
    sumAt m d (n + 1) c k (ix3 0 r l) = sumAt m d n (src d c) k (ix3 0 r l) + term m R l c := by
  have h0 := h.2 0 (by omega)
  rw [back_zero, show n + 1 - 1 - 0 = n by omega] at h0
  rw [sumAt_succ, add_at, prod_at]
  refine congrArg₂ (· + ·) rfl (Finset.sum_congr rfl fun κ _ => ?_)
  rw [xRows_at m d c n k r κ R (by rw [h0.1]; exact hR) h0.2, wAll_at]

/-- The sum after `n` steps has one term for each device it has passed. -/
theorem sum_at (d : Bool) (k : Fin 2) (B : ℕ) (r : Fin 128) (l : Fin 8192) (R : Fin 4096) (hR : B + r.val = R.val)
    (n : ℕ) : ∀ c : Dev nD, StartsAt d k B n c →
      sumAt m d n c k (ix3 0 r l) = ∑ t ∈ Finset.range (n + 1), term m R l (back d t c) := by
  induction n with
  | zero =>
    intro c h
    rw [Finset.sum_range_one, back_zero]
    exact sum_first m d k B r l R hR c h
  | succ n ih =>
    intro c h
    rw [Finset.sum_range_succ', back_zero, sum_next m d k B r l R hR n c h, ih (src d c) h.prev]
    rfl

/-- The rows of a chunk are the same on all the devices that its sum passes. -/
theorem starts (d : Bool) (k : Fin 2) (q : Fin 8) :
    StartsAt d k (512 * q.val + 256 * d.toNat + 128 * k.val) 7 (chunkDev d q) := by
  unfold StartsAt
  revert d k q
  decide +kernel

theorem around (d : Bool) (c : Dev nD) : Function.Bijective fun t : Fin 8 => back d t.val c := by
  have h : ∀ (d : Bool) (c : Dev nD), Function.Injective fun t : Fin 8 => back d t.val c := by decide +kernel
  exact (Finite.injective_iff_bijective).1 (h d c)

theorem sum_whole (d : Bool) (k : Fin 2) (q : Fin 8) (r : Fin 128) (l : Fin 8192) (R : Fin 4096)
    (hR : 512 * q.val + 256 * d.toNat + 128 * k.val + r.val = R.val) :
    sumAt m d 7 (chunkDev d q) k (ix3 0 r l) = ∑ c : Dev nD, term m R l c := by
  rw [sum_at m d k _ r l R hR 7 _ (starts d k q), Finset.sum_range]
  exact (around d (chunkDev d q)).sum_comp (fun c => term m R l c)

/-! ## The result -/

/-- Each element of the result, on every device. -/
theorem out_at (R : Fin 4096) (l : Fin 8192) (i j : S1.Idx) (s t : EReal)
    (hs : ∀ c : Dev nD, m ((c : Thread nD τ).loc main_arg2) i = s) (ht : ∀ c : Dev nD, m ((c : Thread nD τ).loc main_arg3) j = t) :
    outAll m (ix2 R l) = act ((∑ c : Dev nD, term m R l c) * (s * t)) := by
  have hR : R.val < 4096 := R.isLt
  obtain ⟨d, hd⟩ : ∃ d : Bool, d = decide (R.val / 256 % 2 = 1) := ⟨_, rfl⟩
  have hq : R.val / 512 < 8 := by omega
  have hdn : d.toNat = R.val / 256 % 2 := by
    rw [hd]
    by_cases h : R.val / 256 % 2 = 1
    · rw [decide_eq_true h, h]; rfl
    · rw [decide_eq_false h]; show 0 = _; omega
  have hy : inBlk (ix2 R l) = ix3 0 (⟨R.val % 256, by omega⟩ : Fin 256) l := by
    funext a
    match a with
    | ⟨0, _⟩ => rfl
    | ⟨1, _⟩ => rfl
    | ⟨2, _⟩ => rfl
  have hout : outAll m (ix2 R l) = fin m d (chunkDev d ⟨R.val / 512, hq⟩) (inBlk (ix2 R l)) := by rw [hd]; rfl
  rw [hout, hy]
  unfold fin
  rw [act_at]
  have hin : glue (sumAt m d 7 (chunkDev d ⟨R.val / 512, hq⟩)) (ix3 0 (⟨R.val % 256, by omega⟩ : Fin 256) l)
      = sumAt m d 7 (chunkDev d ⟨R.val / 512, hq⟩) ⟨R.val % 256 / 128, by omega⟩ (ix3 0 ⟨R.val % 256 % 128, by omega⟩ l) := by
    unfold glue
    refine congrArg₂ (sumAt m d 7 (chunkDev d ⟨R.val / 512, hq⟩)) rfl (funext fun a => ?_)
    match a with
    | ⟨0, _⟩ => rfl
    | ⟨1, _⟩ => rfl
    | ⟨2, _⟩ => rfl
  rw [hin, sum_whole m d _ ⟨R.val / 512, hq⟩ _ l R (by
    show 512 * (R.val / 512) + 256 * d.toNat + 128 * (R.val % 256 / 128) + R.val % 256 % 128 = R.val
    omega), sxAt_eq m _ i, swAt_eq m _ j, hs, ht]
  rfl

end Cert.KernelIdeal.Ring

end
-- ==== Proof.RefValue.lean ====
module

public import proofs.«01_k».proof.Proof.Gen.ReferenceIdeal.Value
public import Idealize.ShloMosaic.Lib.VecWindow
public import Idealize.ShloMosaic.Lib.Pipeline.ValueKit.Tiles

@[expose] public section

set_option maxRecDepth 20000

noncomputable section

/-! # What the reference computes

The reference is one call without a grid: it loads both factors and both scales whole and stores the result
whole. So the result array holds the value of the one store, at the argument arrays. -/

namespace Cert.ReferenceIdeal.Whole

open Idealize.ShloMosaic Idealize.ShloMosaic.TcCoe
open Cert.ReferenceIdeal Cert.ReferenceIdeal.Gen

variable {F : FTy → Type} [FloatOps F]
variable (m : (ℓ : Loc nD τ sig) → Buf (Elt F) ℓ)

/-- The only point of the call. -/
abbrev pt : Fin cfg0.N := ⟨0, by decide⟩

/-- The only index of a one-element array. -/
abbrev one : S1.Idx := Shape.Idx.first (numel1_S1.symm ▸ Nat.one_pos)

theorem index_zero : (∀ a : Fin 2, win0_0.index pt a = 0) ∧ (∀ a : Fin 2, win0_1.index pt a = 0)
    ∧ (∀ a : Fin 1, win0_2.index pt a = 0) ∧ (∀ a : Fin 1, win0_3.index pt a = 0) ∧ ∀ a : Fin 2, win0_4.index pt a = 0 := by
  decide +kernel

theorem place0 (y : S4096x4096.Idx) : ((cfg0.win 0).blk pt).view.emb y = y := by
  have h := index_zero.1
  funext a
  refine Fin.ext ?_
  match a with
  | ⟨0, _⟩ => show win0_0.index pt (0 : Fin 2) * 4096 + 1 * (y 0).val = (y 0).val; rw [h]; omega
  | ⟨1, _⟩ => show win0_0.index pt (1 : Fin 2) * 4096 + 1 * (y 1).val = (y 1).val; rw [h]; omega

theorem place1 (y : S4096x8192.Idx) : ((cfg0.win 1).blk pt).view.emb y = y := by
  have h := index_zero.2.1
  funext a
  refine Fin.ext ?_
  match a with
  | ⟨0, _⟩ => show win0_1.index pt (0 : Fin 2) * 4096 + 1 * (y 0).val = (y 0).val; rw [h]; omega
  | ⟨1, _⟩ => show win0_1.index pt (1 : Fin 2) * 8192 + 1 * (y 1).val = (y 1).val; rw [h]; omega

theorem place2 (y : S1.Idx) : ((cfg0.win 2).blk pt).view.emb y = y := by
  have h := index_zero.2.2.1
  funext a
  refine Fin.ext ?_
  match a with
  | ⟨0, _⟩ => show win0_2.index pt (0 : Fin 1) * 1 + 1 * (y 0).val = (y 0).val; rw [h]; omega

theorem place3 (y : S1.Idx) : ((cfg0.win 3).blk pt).view.emb y = y := by
  have h := index_zero.2.2.2.1
  funext a
  refine Fin.ext ?_
  match a with
  | ⟨0, _⟩ => show win0_3.index pt (0 : Fin 1) * 1 + 1 * (y 0).val = (y 0).val; rw [h]; omega

theorem place4 (y : S4096x8192.Idx) : ((cfg0.win 4).blk pt).view.emb y = y := by
  have h := index_zero.2.2.2.2
  funext a
  refine Fin.ext ?_
  match a with
  | ⟨0, _⟩ => show win0_4.index pt (0 : Fin 2) * 4096 + 1 * (y 0).val = (y 0).val; rw [h]; omega
  | ⟨1, _⟩ => show win0_4.index pt (1 : Fin 2) * 8192 + 1 * (y 1).val = (y 1).val; rw [h]; omega

theorem staged0 (c : Dev nD) : iblk m c 0 pt = m ((c : Thread nD τ).loc main_arg0) := by
  funext y
  show V m c main_arg0 (((cfg0.win 0).blk pt).view.emb y) = _
  rw [place0]

theorem staged1 (c : Dev nD) : iblk m c 1 pt = m ((c : Thread nD τ).loc main_arg1) := by
  funext y
  show V m c main_arg1 (((cfg0.win 1).blk pt).view.emb y) = _
  rw [place1]

theorem staged2 (c : Dev nD) : iblk m c 2 pt = m ((c : Thread nD τ).loc main_arg2) := by
  funext y
  show V m c main_arg2 (((cfg0.win 2).blk pt).view.emb y) = _
  rw [place2]

theorem staged3 (c : Dev nD) : iblk m c 3 pt = m ((c : Thread nD τ).loc main_arg3) := by
  funext y
  show V m c main_arg3 (((cfg0.win 3).blk pt).view.emb y) = _
  rw [place3]

/-- A load of a whole array reads the array. -/
theorem load0 {s : Memref sig .tc .vmem S4096x4096 .fp8e4m3} (h : s.IsWhole) (x : Vec F S4096x4096 .fp8e4m3) :
    s.view.readAt (Elt F) (Rect.unit (s := S4096x4096) ![0, 0] S4096x4096.size inb_S4096x4096_S4096x4096_0_0).toLoadRect (h.unread x) = x := by
  funext y
  rw [View.readAt_apply, h.read_unread]
  refine congrArg x (funext fun a => Fin.ext ?_)
  rw [Rect.idx_unit_val]
  match a with
  | ⟨0, _⟩ => exact Nat.zero_add _
  | ⟨1, _⟩ => exact Nat.zero_add _

theorem load1 {s : Memref sig .tc .vmem S4096x8192 .fp8e5m2} (h : s.IsWhole) (x : Vec F S4096x8192 .fp8e5m2) :
    s.view.readAt (Elt F) (Rect.unit (s := S4096x8192) ![0, 0] S4096x8192.size inb_S4096x8192_S4096x8192_0_0).toLoadRect (h.unread x) = x := by
  funext y
  rw [View.readAt_apply, h.read_unread]
  refine congrArg x (funext fun a => Fin.ext ?_)
  rw [Rect.idx_unit_val]
  match a with
  | ⟨0, _⟩ => exact Nat.zero_add _
  | ⟨1, _⟩ => exact Nat.zero_add _

theorem scalar {s : Memref sig .tc .smem S1 .f32} (h : s.IsWhole) (x : Vec F S1 .f32) :
    s.view.readAt (Elt F) (Rect.unit (s := S1) ![0] S1.size inb_S1_S1_0).toLoadRect (h.unread x) one = x one := by
  rw [View.readAt_apply, h.read_unread]
  refine congrArg x (funext fun a => Fin.ext ?_)
  have e1 := ((Rect.unit (s := S1) ![0] S1.size inb_S1_S1_0).toLoadRect.idx one a).isLt
  have e2 := (one a).isLt
  match a with
  | ⟨0, _⟩ =>
    have e1 : ((Rect.unit (s := S1) ![0] S1.size inb_S1_S1_0).toLoadRect.idx one 0).val < 1 := e1
    have e2 : (one 0).val < 1 := e2
    show ((Rect.unit (s := S1) ![0] S1.size inb_S1_S1_0).toLoadRect.idx one 0).val = (one 0).val
    omega

/-- The body's store, at what it has loaded. -/
theorem left (c : Dev nD) (a0 : Memref sig .tc .vmem S4096x4096 .fp8e4m3) (h0 : a0.IsWhole)
    (a1 : Memref sig .tc .vmem S4096x8192 .fp8e5m2) (h1 : a1.IsWhole) (a2 : Memref sig .tc .smem S1 .f32) (h2 : a2.IsWhole)
    (a3 : Memref sig .tc .smem S1 .f32) (h3 : a3.IsWhole) (a4 : Memref sig .tc .vmem S4096x8192 .bf16) (h4 : a4.IsWhole)
    (x0 : Vec F S4096x4096 .fp8e4m3) (x1 : Vec F S4096x8192 .fp8e5m2) (x2 : Vec F S1 .f32) (x3 : Vec F S1 .f32) (y : S4096x8192.Idx) :
    out0_A_4 c a0 h0 a1 h1 a2 h2 a3 h3 a4 h4 x0 x1 x2 x3 y = k0_pay1 x0 x1 (x2 one) (x3 one) y := by
  unfold out0_A_4 kernelRun0_A
  have h := View.read_writes_cons_emb (v := VO0_4) (f := VO0_4.junk) (Val := Elt F)
    (Rect.unit (s := S4096x8192) ![0, 0] S4096x8192.size inb_S4096x8192_S4096x8192_0_0)
    (k0_pay1 (a0.view.readAt (Elt F) (Rect.unit (s := S4096x4096) ![0, 0] S4096x4096.size inb_S4096x4096_S4096x4096_0_0).toLoadRect (h0.unread x0))
      (a1.view.readAt (Elt F) (Rect.unit (s := S4096x8192) ![0, 0] S4096x8192.size inb_S4096x8192_S4096x8192_0_0).toLoadRect (h1.unread x1))
      (a2.view.readAt (Elt F) (Rect.unit (s := S1) ![0] S1.size inb_S1_S1_0).toLoadRect (h2.unread x2) one)
      (a3.view.readAt (Elt F) (Rect.unit (s := S1) ![0] S1.size inb_S1_S1_0).toLoadRect (h3.unread x3) one)) [] y
  rw [Rect.emb_unit_full] at h
  refine h.trans ?_
  rw [load0, load1, scalar, scalar]

/-- The result array after the run. -/
theorem result (c : Dev nD) : (dats m 0 c).arrAt 4 cfg0.N
    = k0_pay1 (m ((c : Thread nD τ).loc main_arg0)) (m ((c : Thread nD τ).loc main_arg1))
        (m ((c : Thread nD τ).loc main_arg2) one) (m ((c : Thread nD τ).loc main_arg3) one) := by
  funext y
  have b := congrFun (Cert.ReferenceIdeal.Value.blocks4 m c pt rfl) y
  rw [Cert.ReferenceIdeal.Value.flushed4_A] at b
  have b' : (dats m 0 c).arrAt 4 cfg0.N (((cfg0.win 4).blk pt).view.emb y)
      = out0_A_4 c (ms0_0 pt) (hs0_0 pt) (ms0_1 pt) (hs0_1 pt) (ms0_2 pt) (hs0_2 pt) (ms0_3 pt) (hs0_3 pt) (ms0_4 pt) (hs0_4 pt)
          (iblk m c 0 pt) (iblk m c 1 pt) (iblk m c 2 pt) (iblk m c 3 pt) y := b
  rw [place4, left, staged0, staged1, staged2, staged3] at b'
  exact b'

end Cert.ReferenceIdeal.Whole

end
-- ==== Proof.Algebraic.lean ====
module

public import proofs.«01_k».proof.Defs
public import proofs.«01_k».proof.Proof.Launch
public import proofs.«01_k».proof.Proof.Value
public import proofs.«01_k».proof.Proof.RefValue

@[expose] public section

set_option maxRecDepth 20000

noncomputable section

/-! # The kernel computes the reference

The reference's contraction over 4096 positions is cut into eight runs of 512, one for each device. -/

namespace Cert.Same

open Idealize.ShloMosaic Idealize.ShloMosaic.TcCoe
open Cert.KernelIdeal.Ring (act act_recip term xPart wPart out_at outAll)

/-- The reference at an index. -/
theorem ref_at (x : Vec Ideal Cert.ReferenceIdeal.S4096x4096 .fp8e4m3) (w : Vec Ideal Cert.ReferenceIdeal.S4096x8192 .fp8e5m2)
    (s t : Ideal .f32) (R : Fin 4096) (l : Fin 8192) :
    Cert.ReferenceIdeal.Gen.k0_pay1 x w s t (ix2 R l)
      = act ((∑ K : Fin 4096, (x (ix2 R K) : EReal) * w (ix2 K l)) * (s * t)) := by
  unfold act
  pointwise [Cert.ReferenceIdeal.Gen.k0_pay1]

variable (m : (ℓ : Loc Cert.KernelIdeal.nD Cert.KernelIdeal.τ Cert.KernelIdeal.sig) → Buf (Elt Ideal) ℓ)

/-- The devices' terms add up to the whole contraction. -/
theorem whole_sum (x : Vec Ideal Cert.ReferenceIdeal.S4096x4096 .fp8e4m3) (w : Vec Ideal Cert.ReferenceIdeal.S4096x8192 .fp8e5m2)
    (hx : ∀ c : Dev Cert.KernelIdeal.nD, m ((c : Thread Cert.KernelIdeal.nD Cert.KernelIdeal.τ).loc Cert.KernelIdeal.main_arg0)
      = Layout.block ⟨2, ![4096, 512]⟩ ⟨2, ![4096, 4096]⟩ 1 8 c x)
    (hw : ∀ c : Dev Cert.KernelIdeal.nD, m ((c : Thread Cert.KernelIdeal.nD Cert.KernelIdeal.τ).loc Cert.KernelIdeal.main_arg1)
      = Layout.block ⟨2, ![512, 8192]⟩ ⟨2, ![4096, 8192]⟩ 0 8 c w)
    (R : Fin 4096) (l : Fin 8192) :
    (∑ c : Dev Cert.KernelIdeal.nD, term m R l c) = ∑ K : Fin 4096, (x (ix2 R K) : EReal) * w (ix2 K l) := by
  rw [Fin.sum_univ_tiles 8 512 rfl]
  refine Finset.sum_congr rfl fun c _ => Finset.sum_congr rfl fun κ _ => ?_
  refine congrArg₂ (fun a b : EReal => a * b) ?_ ?_
  · unfold xPart
    rw [hx]
    show x _ = x _
    refine congrArg x (funext fun a => Fin.ext ?_)
    match a with
    | ⟨0, _⟩ => rfl
    | ⟨1, _⟩ => rfl
  · unfold wPart
    rw [hw]
    show w _ = w _
    refine congrArg w (funext fun a => Fin.ext ?_)
    match a with
    | ⟨0, _⟩ => rfl
    | ⟨1, _⟩ => rfl

/-- Every device ends with the reference's result. -/
theorem algebraic [hKernelIdeal : Cert.KernelIdeal.Facts] [hReferenceIdeal : Cert.ReferenceIdeal.Facts] :
    Cert.algebraic_KernelIdeal_ReferenceIdeal := by
  intro m g m' g' _ hm
  refine ⟨Cert.ReferenceIdeal.Gen.k0_pay1 (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2) Cert.ReferenceIdeal.Whole.one)
    (m' (((0 : Dev Cert.ReferenceIdeal.nD).tc : Thread Cert.ReferenceIdeal.nD Cert.ReferenceIdeal.τ).loc Cert.ReferenceIdeal.main_arg3) Cert.ReferenceIdeal.Whole.one), ?_, ?_⟩
  · refine (θ_run _ _ _).mono (fun r h c => ⟨((h.1 c).2).trans ?_, (h.1 c).1 0, (h.1 c).1 1, (h.1 c).1 2, (h.1 c).1 3⟩)
      (Cert.KernelIdeal.Ring.run_main m g)
    funext i
    obtain ⟨R, l, hi⟩ : ∃ (R : Fin 4096) (l : Fin 8192), i = ix2 R l := ⟨i 0, i 1, by
      funext a
      match a with
      | ⟨0, _⟩ => rfl
      | ⟨1, _⟩ => rfl⟩
    rw [hi]
    refine (out_at m R l Cert.KernelIdeal.Ring.one Cert.KernelIdeal.Ring.one _ _
      (fun c => congrFun (hm c).2.2.1 _) (fun c => congrFun (hm c).2.2.2 _)).trans ?_
    rw [whole_sum m _ _ (fun c => (hm c).1) (fun c => (hm c).2.1)]
    exact (ref_at _ _ _ _ R l).symm
  · exact (θ_run _ _ _).mono (fun r h => ⟨(h 0).1.trans (Cert.ReferenceIdeal.Whole.result m' 0), (h 0).2⟩)
      (Cert.ReferenceIdeal.Value.run_blocks m' g')

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Algebraic
public import proofs.«01_k».proof.Proof.Bits.Launch
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Ring.frame m ρ,
  fun m ρ _ => Cert.KernelIdeal.Ring.frame m ρ,
  fun m ρ _ => Cert.ReferenceIdeal.Gen.frame m ρ,
  trivial,
  Cert.Same.algebraic⟩

end Cert.Proof

end
